-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "tau_log2e" .f32 0x41E6D4CA#32 ((20 * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096 : Shape := ⟨2, ![8, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x4096 .f32 := Host.absf main_arg4
  let main_cst_6 : FVec F S_ .f32 := constant S_ .f32 0x7F800000#32
  let main_v20 : FVec F S8x4096 .f32 := broadcastInDim S8x4096 ![] bcast_S_S8x4096 main_cst_6
  let main_v21 : IVec S8x4096 1 := cmpf .olt main_v19 main_v20
  let main_c_7 : IVec S_ 1 := constantI S_ 1 1#1
  let main_v22 : IVec S_ 1 := (fun x v => Host.reduce IntOp.andi x v reducesTo_S8x4096_S_d0_1 h_S_) main_v21 main_c_7
  let main_v23 : IVec S_ 1 := andi main_v18 main_v22
  main_v23

def fn {F : FTy → Type} [FloatOps F] (main_arg0 : FVec F S8x4096x64 .f32) (main_arg1 : FVec F S8x4096 .f32) (main_arg2 : FVec F S8x4096x64 .f32) (main_arg3 : FVec F S8x4096 .f32) (main_arg4 : FVec F S8x4096 .f32) (main_arg5 : IVec S8x4096 32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S8x4096x64 : Shape := ⟨3, ![8, 4096, 64]⟩
abbrev S8x4096 : Shape := ⟨2, ![8, 4096]⟩
abbrev S8x1x4096 : Shape := ⟨3, ![8, 1, 4096]⟩
abbrev S8x4096x1 : Shape := ⟨3, ![8, 4096, 1]⟩
abbrev S1x512x64 : Shape := ⟨3, ![1, 512, 64]⟩
abbrev S1x1x512 : Shape := ⟨3, ![1, 1, 512]⟩
abbrev S1x4096x64 : Shape := ⟨3, ![1, 4096, 64]⟩
abbrev S1x4096x1 : Shape := ⟨3, ![1, 4096, 1]⟩
abbrev S4096x512 : Shape := ⟨2, ![4096, 512]⟩
abbrev S64x4096 : Shape := ⟨2, ![64, 4096]⟩
abbrev S512x64 : Shape := ⟨2, ![512, 64]⟩
abbrev S1x512 : Shape := ⟨2, ![1, 512]⟩
abbrev S4096x64 : Shape := ⟨2, ![4096, 64]⟩
abbrev S4096x1 : Shape := ⟨2, ![4096, 1]⟩
abbrev S512x512 : Shape := ⟨2, ![512, 512]⟩
abbrev S512 : Shape := ⟨1, ![512]⟩
abbrev S8x512 : Shape := ⟨2, ![8, 512]⟩
abbrev S1x512x1 : Shape := ⟨3, ![1, 512, 1]⟩
abbrev S512x1 : Shape := ⟨2, ![512, 1]⟩
abbrev S64x8x512 : Shape := ⟨3, ![64, 8, 512]⟩
abbrev S64x512 : Shape := ⟨2, ![64, 512]⟩

abbrev nBuf : Space → Nat
  | .hbm => 18
  | .vmem => 30
  | .smem => 0
  | _ => 0

abbrev bufTy : (tb : Table) → Fin (tcTables nBuf tb) → BufTy
  | .hbm, ⟨0, _⟩ => ⟨S8x4096x64, .f32⟩
  | .hbm, ⟨1, _⟩ => ⟨S8x4096, .f32⟩
  | .hbm, ⟨2, _⟩ => ⟨S8x4096x64, .f32⟩
  | .hbm, ⟨3, _⟩ => ⟨S8x4096, .f32⟩
  | .hbm, ⟨4, _⟩ => ⟨S8x4096, .f32⟩
  | .hbm, ⟨5, _⟩ => ⟨S8x4096, .i32⟩
  | .hbm, ⟨6, _⟩ => ⟨S8x4096x64, .fp8e4m3⟩
  | .hbm, ⟨7, _⟩ => ⟨S8x4096x64, .fp8e4m3⟩
  | .hbm, ⟨8, _⟩ => ⟨S8x1x4096, .f32⟩
  | .hbm, ⟨9, _⟩ => ⟨S8x1x4096, .i32⟩
  | .hbm, ⟨10, _⟩ => ⟨S8x4096x1, .f32⟩
  | .hbm, ⟨11, _⟩ => ⟨S8x4096x1, .f32⟩
  | .hbm, ⟨12, _⟩ => ⟨S8x4096x1, .i32⟩
  | .hbm, ⟨13, _⟩ => ⟨S8x1x4096, .f32⟩
  | .hbm, ⟨14, _⟩ => ⟨S8x1x4096, .f32⟩
  | .hbm, ⟨15, _⟩ => ⟨S8x1x4096, .f32⟩
  | .hbm, ⟨16, _⟩ => ⟨S8x4096x64, .bf16⟩
  | .hbm, ⟨17, _⟩ => ⟨S8x4096x64, .bf16⟩
  | .local _ .vmem, ⟨0, _⟩ => ⟨S1x512x64, .fp8e4m3⟩
  | .local _ .vmem, ⟨1, _⟩ => ⟨S1x512x64, .fp8e4m3⟩
  | .local _ .vmem, ⟨2, _⟩ => ⟨S1x1x512, .f32⟩
  | .local _ .vmem, ⟨3, _⟩ => ⟨S1x1x512, .f32⟩
  | .local _ .vmem, ⟨4, _⟩ => ⟨S1x1x512, .i32⟩
  | .local _ .vmem, ⟨5, _⟩ => ⟨S1x1x512, .i32⟩
  | .local _ .vmem, ⟨6, _⟩ => ⟨S1x4096x64, .fp8e4m3⟩
  | .local _ .vmem, ⟨7, _⟩ => ⟨S1x4096x64, .fp8e4m3⟩
  | .local _ .vmem, ⟨8, _⟩ => ⟨S1x4096x1, .f32⟩
  | .local _ .vmem, ⟨9, _⟩ => ⟨S1x4096x1, .f32⟩
  | .local _ .vmem, ⟨10, _⟩ => ⟨S1x4096x1, .f32⟩
  | .local _ .vmem, ⟨11, _⟩ => ⟨S1x4096x1, .f32⟩
  | .local _ .vmem, ⟨12, _⟩ => ⟨S1x4096x1, .i32⟩
  | .local _ .vmem, ⟨13, _⟩ => ⟨S1x4096x1, .i32⟩
  | .local _ .vmem, ⟨14, _⟩ => ⟨S1x512x64, .fp8e4m3⟩
  | .local _ .vmem, ⟨15, _⟩ => ⟨S1x512x64, .fp8e4m3⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x512x64, .bf16⟩
  | .local _ .vmem, ⟨23, _⟩ => ⟨S1x512x64, .bf16⟩
  | .local _ .vmem, ⟨24, _⟩ => ⟨S1x4096x64, .bf16⟩
  | .local _ .vmem, ⟨25, _⟩ => ⟨S1x4096x64, .bf16⟩
  | .local _ .vmem, ⟨26, _⟩ => ⟨S4096x512, .f32⟩
  | .local _ .vmem, ⟨27, _⟩ => ⟨S4096x512, .bf16⟩
  | .local _ .vmem, ⟨28, _⟩ => ⟨S64x4096, .bf16⟩
  | .local _ .vmem, ⟨29, _⟩ => ⟨S64x4096, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_23 : BitVec 32 := 0#32
  let c8_i32 : BitVec 32 := 8#32
  let v31 : BitVec 32 := Scalar.addi c0_i32_23 c8_i32
  let c1_i32 : BitVec 32 := 1#32
  ⟨c0_i32_23, v31, c1_i32⟩
def k0_mult1 (k0_t1 : Fin k0_t1_loop.trips) : BitVec 32 :=
  let c0_i32_23 : BitVec 32 := 0#32
  let c1_i32 : BitVec 32 := 1#32
  let arg19 : BitVec 32 := Scf.iv c0_i32_23 c1_i32 k0_t1
  let c512_i32_51 : BitVec 32 := 512#32
  let v102 : BitVec 32 := Scalar.muli arg19 c512_i32_51
  v102
def k0_off1 (k0_t1 : Fin k0_t1_loop.trips) : Fin 3 → Nat :=
  let c0_52 : Index := 0#32
  let c0_i32_23 : BitVec 32 := 0#32
  let c1_i32 : BitVec 32 := 1#32
  let arg19 : BitVec 32 := Scf.iv c0_i32_23 c1_i32 k0_t1
  let c512_i32_51 : BitVec 32 := 512#32
  let v102 : BitVec 32 := Scalar.muli arg19 c512_i32_51
  let v103 : BitVec 32 := v102
  let v104 : Index := Scalar.indexCast v103
  let c0_53 : Index := 0#32
  ![0, v104.toNat, 0]
def k0_off2 (k0_t1 : Fin k0_t1_loop.trips) : Fin 3 → Nat :=
  let c0_55 : Index := 0#32
  let c0_i32_23 : BitVec 32 := 0#32
  let c1_i32 : BitVec 32 := 1#32
  let arg19 : BitVec 32 := Scf.iv c0_i32_23 c1_i32 k0_t1
  let c512_i32_51 : BitVec 32 := 512#32
  let v102 : BitVec 32 := Scalar.muli arg19 c512_i32_51
  let v103 : BitVec 32 := v102
  let v110 : Index := Scalar.indexCast v103
  let c0_56 : Index := 0#32
  ![0, v110.toNat, 0]
def k0_off3 (k0_t1 : Fin k0_t1_loop.trips) : Fin 2 → Nat :=
  let c0_i32_23 : BitVec 32 := 0#32
  let c1_i32 : BitVec 32 := 1#32
  let arg19 : BitVec 32 := Scf.iv c0_i32_23 c1_i32 k0_t1
  let c512_i32_51 : BitVec 32 := 512#32
  let v102 : BitVec 32 := Scalar.muli arg19 c512_i32_51
  let v103 : BitVec 32 := v102
  let v132 : Index := Scalar.indexCast v103
  let c0_64 : Index := 0#32
  ![v132.toNat, 0]
@[reducible] def k0_t2_loop : Scf.Loop 32 :=
  let c0_i32_27 : BitVec 32 := 0#32
  let c8_i32_28 : BitVec 32 := 8#32
  let v37 : BitVec 32 := Scalar.addi c0_i32_27 c8_i32_28
  let c1_i32_29 : BitVec 32 := 1#32
  ⟨c0_i32_27, v37, c1_i32_29⟩
def k0_mult2 (k0_t2 : Fin k0_t2_loop.trips) : BitVec 32 :=
  let c0_i32_27 : BitVec 32 := 0#32
  let c1_i32_29 : BitVec 32 := 1#32
  let arg19 : BitVec 32 := Scf.iv c0_i32_27 c1_i32_29 k0_t2
  let c512_i32_51 : BitVec 32 := 512#32
  let v102 : BitVec 32 := Scalar.muli arg19 c512_i32_51
  v102
def k0_off4 (k0_t2 : Fin k0_t2_loop.trips) : Fin 2 → Nat :=
  let c0_i32_27 : BitVec 32 := 0#32
  let c1_i32_29 : BitVec 32 := 1#32
  let arg19 : BitVec 32 := Scf.iv c0_i32_27 c1_i32_29 k0_t2
  let c512_i32_51 : BitVec 32 := 512#32
  let v102 : BitVec 32 := Scalar.muli arg19 c512_i32_51
  let v103 : BitVec 32 := v102
  let v104 : Index := Scalar.indexCast v103
  let c0_52 : Index := 0#32
  ![v104.toNat, 0]
@[reducible] def k0_t3_loop : Scf.Loop 32 :=
  let c0_i32_39 : BitVec 32 := 0#32
  let c8_i32_40 : BitVec 32 := 8#32
  let v71 : BitVec 32 := Scalar.addi c0_i32_39 c8_i32_40
  let c1_i32_41 : BitVec 32 := 1#32
  ⟨c0_i32_39, v71, c1_i32_41⟩
def k0_mult3 (k0_t3 : Fin k0_t3_loop.trips) : BitVec 32 :=
  let c0_i32_39 : BitVec 32 := 0#32
  let c1_i32_41 : BitVec 32 := 1#32
  let arg19 : BitVec 32 := Scf.iv c0_i32_39 c1_i32_41 k0_t3
  let c512_i32_51 : BitVec 32 := 512#32
  let v102 : BitVec 32 := Scalar.muli arg19 c512_i32_51
  v102
def k0_off5 (k0_t3 : Fin k0_t3_loop.trips) : Fin 2 → Nat :=
  let c0_i32_39 : BitVec 32 := 0#32
  let c1_i32_41 : BitVec 32 := 1#32
  let arg19 : BitVec 32 := Scf.iv c0_i32_39 c1_i32_41 k0_t3
  let c512_i32_51 : BitVec 32 := 512#32
  let v102 : BitVec 32 := Scalar.muli arg19 c512_i32_51
  let v103 : BitVec 32 := v102
  let v104 : Index := Scalar.indexCast v103
  let c0_52 : Index := 0#32
  ![v104.toNat, 0]
def k0_off6 (k0_t3 : Fin k0_t3_loop.trips) : Fin 2 → Nat :=
  let c0_55 : Index := 0#32
  let c0_i32_39 : BitVec 32 := 0#32
  let c1_i32_41 : BitVec 32 := 1#32
  let arg19 : BitVec 32 := Scf.iv c0_i32_39 c1_i32_41 k0_t3
  let c512_i32_51 : BitVec 32 := 512#32
  let v102 : BitVec 32 := Scalar.muli arg19 c512_i32_51
  let v103 : BitVec 32 := v102
  let v109 : Index := Scalar.indexCast v103
  ![0, v109.toNat]
def k0_mult4 (i : grid0.Coords) : BitVec 32 :=
  let arg1 : BitVec 32 := BitVec.ofNat 32 (i 1).val
  let c512_i32 : BitVec 32 := 512#32
  let v73 : BitVec 32 := Scalar.muli arg1 c512_i32
  v73
def k0_off7 (i : grid0.Coords) : Fin 2 → Nat :=
  let c0_43 : Index := 0#32
  let arg1 : BitVec 32 := BitVec.ofNat 32 (i 1).val
  let c512_i32 : BitVec 32 := 512#32
  let v73 : BitVec 32 := Scalar.muli arg1 c512_i32
  let v74 : BitVec 32 := v73
  let v77 : Index := Scalar.indexCast v74
  ![0, v77.toNat]
def k0_cond2 (i : grid0.Coords) : BitVec 1 :=
  let arg1 : BitVec 32 := BitVec.ofNat 32 (i 1).val
  let c7_i32 : BitVec 32 := 7#32
  let v99 : BitVec 1 := Scalar.cmpi .eq arg1 c7_i32
  let v100 : BitVec 32 := Scalar.extui v99
  let c0_i32_50 : BitVec 32 := 0#32
  let v101 : BitVec 1 := Scalar.cmpi .ne v100 c0_i32_50
  v101

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x64 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x64 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "tau_log2e" => some ((20 * (Real.log 2)⁻¹ : ℝ) : EReal)
  | _ => none
-- ==== ReferenceIdeal.lean ====
abbrev S8x4096x64 : Shape := ⟨3, ![8, 4096, 64]⟩
abbrev S8x4096 : Shape := ⟨2, ![8, 4096]⟩
abbrev S8x4096x1 : Shape := ⟨3, ![8, 4096, 1]⟩
abbrev S8x4096x4096 : Shape := ⟨3, ![8, 4096, 4096]⟩
abbrev S_ : Shape := ⟨0, ![]⟩
abbrev S8x1x4096 : Shape := ⟨3, ![8, 1, 4096]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096, .f32⟩
  | .hbm, ⟨2, _⟩ => ⟨S8x4096x64, .f32⟩
  | .hbm, ⟨3, _⟩ => ⟨S8x4096, .f32⟩
  | .hbm, ⟨4, _⟩ => ⟨S8x4096, .f32⟩
  | .hbm, ⟨5, _⟩ => ⟨S8x4096, .i32⟩
  | .hbm, ⟨6, _⟩ => ⟨S8x4096x1, .f32⟩
  | .hbm, ⟨7, _⟩ => ⟨S8x4096x64, .f32⟩
  | .hbm, ⟨8, _⟩ => ⟨S8x4096x64, .f32⟩
  | .hbm, ⟨9, _⟩ => ⟨S8x4096x1, .f32⟩
  | .hbm, ⟨10, _⟩ => ⟨S8x4096x64, .f32⟩
  | .hbm, ⟨11, _⟩ => ⟨S8x4096x64, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x1x4096, .f32⟩
  | .hbm, ⟨17, _⟩ => ⟨S8x4096x4096, .f32⟩
  | .hbm, ⟨18, _⟩ => ⟨S8x4096x4096, .f32⟩
  | .hbm, ⟨19, _⟩ => ⟨S8x4096x4096, .i32⟩
  | .hbm, ⟨20, _⟩ => ⟨S8x4096x4096, .i32⟩
  | .hbm, ⟨21, _⟩ => ⟨S8x4096x4096, .i1⟩
  | .hbm, ⟨22, _⟩ => ⟨S8x4096x1, .i32⟩
  | .hbm, ⟨23, _⟩ => ⟨S8x1x4096, .i32⟩
  | .hbm, ⟨24, _⟩ => ⟨S8x4096x4096, .i32⟩
  | .hbm, ⟨25, _⟩ => ⟨S8x4096x4096, .i32⟩
  | .hbm, ⟨26, _⟩ => ⟨S8x4096x4096, .i1⟩
  | .hbm, ⟨27, _⟩ => ⟨S8x4096x4096, .i1⟩
  | .hbm, ⟨28, _⟩ => ⟨S8x4096x4096, .i1⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x64, .f32⟩
  | .hbm, ⟨55, _⟩ => ⟨S_, .f32⟩
  | .hbm, ⟨56, _⟩ => ⟨S8x4096x64, .f32⟩
  | .hbm, ⟨57, _⟩ => ⟨S8x4096x64, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x64, .f32⟩
  | .hbm, ⟨63, _⟩ => ⟨S_, .f32⟩
  | .hbm, ⟨64, _⟩ => ⟨S8x4096x64, .f32⟩
  | .hbm, ⟨65, _⟩ => ⟨S8x4096x64, .f32⟩
  | .hbm, ⟨66, _⟩ => ⟨S8x1x4096, .f32⟩
  | .hbm, ⟨67, _⟩ => ⟨S8x4096x64, .bf16⟩
  | .hbm, ⟨68, _⟩ => ⟨S8x4096x64, .bf16⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Proof.Ideal.Point.lean ====
/-
  What ONE grid point of the kernel computes, as plain functions of the blocks it is handed: the running maximum and
  the running sum over the eight tiles of the item axis, the tiles of scores and of exponentials, and what the point
  leaves in its outputs and in the two scratch arrays it carries. No memory in sight; the values are any float algebra's.
-/
module

public import proofs.«01_k».proof.Proof.Gen.KernelIdeal.Skeleton
public import Idealize.ShloMosaic.Lib.VecWindow

@[expose] public section

noncomputable section

namespace Cert.KernelIdeal.Point

open Idealize.ShloMosaic Idealize.SL.Sem Cert.KernelIdeal Cert.KernelIdeal.Gen
open Idealize.ShloMosaic.VecWindow (window put)

/-- The blocks a grid point is handed, one per input window. -/
structure Blocks (F : FTy → Type) where
  /-- the user rows' codes -/
  uc : Vec F S1x512x64 .fp8e4m3
  /-- the user rows' scales -/
  us : Vec F S1x1x512 .f32
  /-- the user rows' item ids -/
  uid : Vec F S1x1x512 .i32
  /-- every item's codes -/
  vc : Vec F S1x4096x64 .fp8e4m3
  /-- every item's scale -/
  vs : Vec F S1x4096x1 .f32
  /-- every item's log-probability -/
  lq : Vec F S1x4096x1 .f32
  /-- every item's id -/
  vid : Vec F S1x4096x1 .i32
  /-- the positives' codes -/
  vcd : Vec F S1x512x64 .fp8e4m3
  /-- the positives' scales -/
  vsd : Vec F S1x1x512 .f32
  /-- the positives' log-probabilities -/
  lqd : Vec F S1x1x512 .f32

variable {F : FTy → Type} [FloatOps F] [Named F] (X : Blocks F)

/-- The positives' scores, in base-two units. -/
def xii : FVec F S1x512 .f32 := k0_pay11 X.uc X.us X.vcd X.vsd X.lqd

/-- The tile of scores of the items of trip `j` against the point's users. -/
def xTile (j : Fin k0_t1_loop.trips) : FVec F S512x512 .f32 :=
  k0_pay14 (k0_pay6 X.uc) (k0_pay7 X.us) (k0_pay8 X.uid)
    (window X.vc (k0_off1 j) S1x512x64.size (k0_off1_inb j)) (window X.vs (k0_off2 j) S1x512x1.size (k0_off2_inb j))
    (window X.lq (k0_off2 j) S1x512x1.size (k0_off2_inb j)) (window X.vid (k0_off2 j) S1x512x1.size (k0_off2_inb j))

/-- The running maximum after one more tile. -/
def mNext (j : Fin k0_t1_loop.trips) (acc : FVec F S8x512 .f32) : FVec F S8x512 .f32 :=
  k0_pay15 (k0_pay6 X.uc) (k0_pay7 X.us) (k0_pay8 X.uid) acc
    (window X.vc (k0_off1 j) S1x512x64.size (k0_off1_inb j)) (window X.vs (k0_off2 j) S1x512x1.size (k0_off2_inb j))
    (window X.lq (k0_off2 j) S1x512x1.size (k0_off2_inb j)) (window X.vid (k0_off2 j) S1x512x1.size (k0_off2_inb j))

/-- The running maximum before tile `k`, kept in eight rows. -/
def m8 : ℕ → FVec F S8x512 .f32
  | 0 => k0_pay12
  | k + 1 => if h : k < k0_t1_loop.trips then mNext X ⟨k, h⟩ (m8 k) else m8 k

/-- The running maximum after the last tile. -/
abbrev mAll : FVec F S8x512 .f32 := m8 X k0_t1_loop.trips

/-- A tile's number, as the first pass counts them. -/
abbrev of2 (j : Fin k0_t2_loop.trips) : Fin k0_t1_loop.trips := ⟨j.val, j.isLt⟩

/-- A tile's number, as the second pass counts them. -/
abbrev of3 (j : Fin k0_t3_loop.trips) : Fin k0_t2_loop.trips := ⟨j.val, j.isLt⟩

/-- The tile of exponentials of trip `j`. -/
def exTile (j : Fin k0_t2_loop.trips) : FVec F S512x512 .bf16 := k0_pay19 (xii X) (mAll X) (xTile X (of2 j))

/-- The running sum before tile `k`, kept in eight rows. -/
def den8 : ℕ → FVec F S8x512 .f32
  | 0 => k0_pay17
  | k + 1 => if h : k < k0_t2_loop.trips then k0_pay20 (xii X) (mAll X) (den8 k) (xTile X (of2 ⟨k, h⟩)) else den8 k

/-- The running sum after the last tile. -/
abbrev denAll : FVec F S8x512 .f32 := den8 X k0_t2_loop.trips

/-- The reciprocal of the softmax denominator. -/
abbrev rden : FVec F S1x512 .f32 := k0_pay23 (xii X) (mAll X) (denAll X)

/-- The positives' softmax probability less one. -/
abbrev gii : FVec F S1x512 .f32 := k0_pay25 (xii X) (mAll X) (denAll X)

/-- The users' vectors, transposed. -/
abbrev ut : FVec F S64x512 .f32 := k0_pay26 (k0_pay6 X.uc) (k0_pay7 X.us)

/-- The scaled users' vectors, their leading part. -/
abbrev hi : FVec F S64x512 .bf16 := k0_pay28 (k0_pay6 X.uc) (k0_pay7 X.us) (xii X) (mAll X) (denAll X)

/-- The scaled users' vectors, what the leading part leaves over. -/
abbrev lo : FVec F S64x512 .bf16 := k0_pay29 (k0_pay6 X.uc) (k0_pay7 X.us) (xii X) (mAll X) (denAll X)

/-- The losses the point stores. -/
def loss : FVec F S1x1x512 .f32 := k0_pay24 (xii X) (mAll X) (denAll X)

/-- The item-gradient accumulator after one more tile. -/
def dNext (j : Fin k0_t3_loop.trips) (D : Vec F S64x4096 .f32) : Vec F S64x4096 .f32 :=
  put D (k0_off6 j) S64x512.size (k0_pay1 (hi X) (lo X) (exTile X (of3 j)) (window D (k0_off6 j) S64x512.size (k0_off6_inb j)))

/-- The item-gradient accumulator before tile `k`, from what it held at the start of the pass. -/
def dAcc (D : Vec F S64x4096 .f32) : ℕ → Vec F S64x4096 .f32
  | 0 => D
  | k + 1 => if h : k < k0_t3_loop.trips then dNext X ⟨k, h⟩ (dAcc D k) else dAcc D k

/-- The user-gradient accumulator before tile `k`. -/
def uAcc (vt : Vec F S64x4096 .bf16) : ℕ → FVec F S64x512 .f32
  | 0 => k0_pay30
  | k + 1 => if h : k < k0_t3_loop.trips then
      k0_pay2 (uAcc vt k) (exTile X (of3 ⟨k, h⟩)) (window vt (k0_off6 ⟨k, h⟩) S64x512.size (k0_off6_inb ⟨k, h⟩))
    else uAcc vt k

/-- The user gradients the point stores. -/
def du (i : grid0.Coords) (vt : Vec F S64x4096 .bf16) : FVec F S1x512x64 .bf16 :=
  k0_pay3 (rden X) (gii X) (uAcc X vt k0_t3_loop.trips) (window vt (k0_off7 i) S64x512.size (k0_off7_inb i))

/-- The item-gradient accumulator the point leaves: the tiles added, then the positives' own term on the point's columns. -/
def dAfter (i : grid0.Coords) (D : Vec F S64x4096 .f32) : Vec F S64x4096 .f32 :=
  put (dAcc X D k0_t3_loop.trips) (k0_off7 i) S64x512.size
    (k0_pay4 (gii X) (ut X) (window (dAcc X D k0_t3_loop.trips) (k0_off7 i) S64x512.size (k0_off7_inb i)))

/-- The point starts a group: its row block is the group's first. -/
abbrev First (i : grid0.Coords) : Prop :=
  Scalar.cmpi .ne (Scalar.extui (Scalar.cmpi .eq (BitVec.ofNat 32 (i 1).val) 0#32)) 0#32 = 1#1

/-- The point ends a group: its row block is the group's last. -/
abbrev Last (i : grid0.Coords) : Prop := k0_cond2 i = 1#1

/-- The transposed item vectors the point works with: computed at a group's first point, carried at the others. -/
def vtNow (i : grid0.Coords) (vt : Vec F S64x4096 .bf16) : Vec F S64x4096 .bf16 := if First i then k0_pay9 X.vc X.vs else vt

/-- The item-gradient accumulator the point starts from: zero at a group's first point, carried at the others. -/
def dNow (i : grid0.Coords) (D : Vec F S64x4096 .f32) : Vec F S64x4096 .f32 := if First i then k0_pay10 else D

end Cert.KernelIdeal.Point

end
-- ==== Proof.Ideal.Passes.lean ====
/-
  The kernel's three passes over the items, each a counted loop of eight trips, as triples over the memrefs they touch:
  a pass runs from its running value at no tiles to its running value at all of them, by an invariant before trip `k`.
-/
module

public import proofs.«01_k».proof.Proof.Ideal.Point
public import Idealize.ShloMosaic.Lib.Exec
public import Idealize.ShloMosaic.Lib.Tactic
public import Idealize.ShloMosaic.Lib.MemrefSat
public import Idealize.ShloMosaic.Lib.Pipeline.Kit

@[expose] public section

set_option maxRecDepth 8192

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F] [Named F] (X : Blocks F)

local notation "𝕄" => MT nD τ sig Unit (Elt F) ℕ (UR sig nD τ) ℕ

/-- A memref of the core held whole, reading `x`. -/
abbrev held (c : Dev nD) {sp : Space} {s : Shape} {e : EltTy} (m : Memref sig .tc sp s e) (x : s.Idx → Elt F e) : sProp 𝕄 :=
  owns (c : Thread nD τ) m fullShare x

/-- A memref of the core held whole, reading something of which `Φ` is true. -/
abbrev heldSat (c : Dev nD) {sp : Space} {s : Shape} {e : EltTy} (m : Memref sig .tc sp s e) (Φ : (s.Idx → Elt F e) → Prop) : sProp 𝕄 :=
  ownsSat (c : Thread nD τ) m fullShare Φ

variable (c : Dev nD) (i : grid0.Coords)
  (arg2 : Memref sig .tc .vmem S1x512x64 .fp8e4m3) (harg2 : arg2.IsWhole) (arg3 : Memref sig .tc .vmem S1x1x512 .f32) (harg3 : arg3.IsWhole)
  (arg4 : Memref sig .tc .vmem S1x1x512 .i32) (harg4 : arg4.IsWhole) (arg5 : Memref sig .tc .vmem S1x4096x64 .fp8e4m3) (harg5 : arg5.IsWhole)
  (arg6 : Memref sig .tc .vmem S1x4096x1 .f32) (harg6 : arg6.IsWhole) (arg7 : Memref sig .tc .vmem S1x4096x1 .f32) (harg7 : arg7.IsWhole)
  (arg8 : Memref sig .tc .vmem S1x4096x1 .i32) (harg8 : arg8.IsWhole) (arg9 : Memref sig .tc .vmem S1x512x64 .fp8e4m3) (harg9 : arg9.IsWhole)
  (arg10 : Memref sig .tc .vmem S1x1x512 .f32) (harg10 : arg10.IsWhole) (arg11 : Memref sig .tc .vmem S1x1x512 .f32) (harg11 : arg11.IsWhole)
  (arg12 : Memref sig .tc .vmem S1x1x512 .f32) (harg12 : arg12.IsWhole) (arg13 : Memref sig .tc .vmem S1x512x64 .bf16) (harg13 : arg13.IsWhole)
  (arg14 : Memref sig .tc .vmem S1x4096x64 .bf16) (harg14 : arg14.IsWhole) (arg15 : Memref sig .tc .vmem S4096x512 .f32) (harg15 : arg15.IsWhole)
  (arg16 : Memref sig .tc .vmem S4096x512 .bf16) (harg16 : arg16.IsWhole) (arg17 : Memref sig .tc .vmem S64x4096 .bf16) (harg17 : arg17.IsWhole)
  (arg18 : Memref sig .tc .vmem S64x4096 .f32) (harg18 : arg18.IsWhole)

/-- A load through a view whose contents are known. -/
theorem load_eq {κ : Kind} {sp : Space} {s : Shape} {e : EltTy} (v : View sig κ sp s e) (f : v.ty.Contents (Elt F)) {x : s.Idx → Elt F e}
    (h : v.read (Elt F) f = x) (off size : Fin s.rank → ℕ) (inb : ∀ a, off a + size a ≤ s.size a) :
    v.readAt (Elt F) (Rect.unit (s := s) off size inb).toLoadRect f = window x off size inb := by
  subst h; exact View.readAt_unit v f inb rfl inb

/-- A tile stored at its rows: the tiles before it are as they were, and it is the payload. -/
theorem tiles_succ {e : EltTy} {n : ℕ} (off : Fin n → Fin 2 → ℕ) (hoff : ∀ j, off j = ![512 * j.val, 0])
    (inb : ∀ j, ∀ a, off j a + S512x512.size a ≤ S4096x512.size a) (T : Fin n → Vec F S512x512 e) (x : Vec F S4096x512 e)
    (k : Fin n) (h : ∀ j : Fin n, j.val < k.val → window x (off j) S512x512.size (inb j) = T j) :
    ∀ j : Fin n, j.val < k.val + 1 → window (put x (off k) S512x512.size (T k)) (off j) S512x512.size (inb j) = T j := by
  intro j hjk
  by_cases e : j = k
  · subst e; exact VecWindow.window_put_same ..
  · have hv : j.val ≠ k.val := fun h => e (Fin.ext h)
    have ha : off j (0 : Fin 2) + S512x512.size (0 : Fin 2) ≤ off k (0 : Fin 2) := by
      rw [hoff j, hoff k]; show 512 * j.val + 512 ≤ 512 * k.val; omega
    exact (VecWindow.window_put_of_disjoint (s := S4096x512) x (off k) _ (off j) _ (inb j) _ (0 : Fin 2) (Or.inl ha)).trans (h j (by omega))

/-- What the score scratch holds before trip `k` of the first pass: the tiles before `k`. -/
def XTiles (k : ℕ) (x : Vec F S4096x512 .f32) : Prop :=
  ∀ j : Fin k0_t1_loop.trips, j.val < k → window x (k0_off3 j) S512x512.size (k0_off3_inb j) = xTile X j

/-- What the exponential scratch holds before trip `k` of the second pass: the tiles before `k`. -/
def ETiles (k : ℕ) (x : Vec F S4096x512 .bf16) : Prop :=
  ∀ j : Fin k0_t2_loop.trips, j.val < k → window x (k0_off4 j) S512x512.size (k0_off4_inb j) = exTile X j

/-- The first pass's invariant. -/
def inv1 (k : ℕ) (acc : FVec F S8x512 .f32) : sProp 𝕄 :=
  iprop(held c arg5 X.vc ∗ held c arg6 X.vs ∗ held c arg7 X.lq ∗ held c arg8 X.vid ∗ heldSat c arg15 (XTiles X k) ∗ ⌜acc = m8 X k⌝)

theorem step1 (v29 : FVec F S1x512 .f32) (v30 : FVec F S8x512 .f32) (k : Fin k0_t1_loop.trips) (acc : FVec F S8x512 .f32) :
    inv1 X c arg5 arg6 arg7 arg8 arg15 k.val acc
      ⊢ wp frame (wpE (defs₀ (F := F)) Variants.none c none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay6 X.uc) (k0_pay7 X.us) (k0_pay8 X.uid) v29 v30 k acc)
          (inv1 X c arg5 arg6 arg7 arg8 arg15 (k.val + 1)) := by
  have hk : k.val < 8 := Nat.lt_of_lt_of_le k.isLt k0_t1_abs.2.1
  unfold inv1 k0_t1_body held heldSat owns ownsSat
  iintro ⟨⟨%f5, %h5, H5⟩, ⟨%f6, %h6, H6⟩, ⟨%f7, %h7, H7⟩, ⟨%f8, %h8, H8⟩, ⟨%f15, %h15, H15⟩, %hacc⟩
  have e5 := load_eq arg5.view f5 h5 _ _ (k0_off1_inb k)
  have e6 := load_eq arg6.view f6 h6 _ _ (k0_off2_inb k)
  have e7 := load_eq arg7.view f7 h7 _ _ (k0_off2_inb k)
  have e8 := load_eq arg8.view f8 h8 _ _ (k0_off2_inb k)
  sl_exec
  sl_step
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H15]
  · iexists _; isplitr; swap; · iexact H15
    ipureintro
    rw [View.read_writes_cons_put _ _ _ _ _ rfl, View.writes_nil]
    exact tiles_succ (F := F) (e := .f32) _ k0_off3_eq k0_off3_inb (xTile X) _ k h15
  ipureintro
  rw [hacc, m8.eq_2, dif_pos k.isLt]; rfl

/-- The second pass's invariant. -/
def inv2 (k : ℕ) (acc : FVec F S8x512 .f32) : sProp 𝕄 :=
  iprop(heldSat c arg15 (XTiles X k0_t1_loop.trips) ∗ heldSat c arg16 (ETiles X k) ∗ ⌜acc = den8 X k⌝)

theorem step2 (v1 : FVec F S512x64 .fp8e4m3) (v3 : FVec F S1x512 .f32) (v5 : IVec S1x512 32) (v30 : FVec F S8x512 .f32) (k : Fin k0_t2_loop.trips) (acc : FVec F S8x512 .f32) :
    inv2 X c arg15 arg16 k.val acc
      ⊢ wp frame (wpE (defs₀ (F := F)) Variants.none c none) Set.univ
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 (xii X) v30 (mAll X) k acc)
          (inv2 X c arg15 arg16 (k.val + 1)) := by
  have hk : k.val < 8 := Nat.lt_of_lt_of_le k.isLt k0_t2_abs.2.1
  unfold inv2 k0_t2_body heldSat ownsSat
  iintro ⟨⟨%f15, %h15, H15⟩, ⟨%f16, %h16, H16⟩, %hacc⟩
  have e15 : View.readAt (Elt F) arg15.view (Rect.unit (s := S4096x512) (k0_off4 k) S512x512.size (k0_off4_inb k)).toLoadRect f15 = xTile X (of2 k) :=
    (View.readAt_unit arg15.view f15 (k0_off4_inb k) ((k0_off4_eq k).trans (k0_off3_eq (of2 k)).symm) (k0_off3_inb (of2 k))).trans (h15 (of2 k) (of2 k).isLt)
  sl_exec
  sl_step
  isplitl [H15]
  · iexists _; isplitr; · ipureintro; exact h15
    iexact H15
  isplitl [H16]
  · iexists _; isplitr; swap; · iexact H16
    ipureintro
    rw [View.read_writes_cons_put _ _ _ _ _ rfl, View.writes_nil]
    exact tiles_succ (F := F) (e := .bf16) _ k0_off4_eq k0_off4_inb (exTile X) _ k h16
  ipureintro
  rw [hacc, den8.eq_2, dif_pos k.isLt]

/-- The third pass's invariant. -/
def inv3 (vt : Vec F S64x4096 .bf16) (D : Vec F S64x4096 .f32) (k : ℕ) (acc : FVec F S64x512 .f32) : sProp 𝕄 :=
  iprop(heldSat c arg16 (ETiles X k0_t2_loop.trips) ∗ held c arg17 vt ∗ held c arg18 (dAcc X D k) ∗ ⌜acc = uAcc X vt k⌝)

theorem step3 (vt : Vec F S64x4096 .bf16) (D : Vec F S64x4096 .f32) (k : Fin k0_t3_loop.trips) (acc : FVec F S64x512 .f32) :
    inv3 X c arg16 arg17 arg18 vt D k.val acc
      ⊢ wp frame (wpE (defs₀ (F := F)) Variants.none c none) Set.univ
          (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (hi X) (lo X) k acc)
          (inv3 X c arg16 arg17 arg18 vt D (k.val + 1)) := by
  have hk : k.val < 8 := Nat.lt_of_lt_of_le k.isLt k0_t3_abs.2.1
  unfold inv3 k0_t3_body held heldSat owns ownsSat
  iintro ⟨⟨%f16, %h16, H16⟩, ⟨%f17, %h17, H17⟩, ⟨%f18, %h18, H18⟩, %hacc⟩
  have e16 : View.readAt (Elt F) arg16.view (Rect.unit (s := S4096x512) (k0_off5 k) S512x512.size (k0_off5_inb k)).toLoadRect f16 = exTile X (of3 k) :=
    (View.readAt_unit arg16.view f16 (k0_off5_inb k) ((k0_off5_eq k).trans (k0_off4_eq (of3 k)).symm) (k0_off4_inb (of3 k))).trans (h16 (of3 k) (of3 k).isLt)
  have e17 := load_eq arg17.view f17 h17 _ _ (k0_off6_inb k)
  have e18 := load_eq arg18.view f18 h18 _ _ (k0_off6_inb k)
  sl_exec
  sl_step
  isplitl [H16]
  · iexists _; isplitr; · ipureintro; exact h16
    iexact H16
  isplitl [H17]
  · iexists _; isplitr; · ipureintro; exact h17
    iexact H17
  isplitl [H18]
  · iexists _; isplitr; swap; · iexact H18
    ipureintro
    rw [View.read_writes_cons_put _ _ _ _ _ rfl, View.writes_nil, h18, dAcc.eq_2, dif_pos k.isLt]; rfl
  ipureintro
  rw [hacc, uAcc.eq_2, dif_pos k.isLt]

end Cert.KernelIdeal.Point

end
-- ==== Proof.Ideal.Body.lean ====
/-
  One grid point of the kernel as a triple over its memrefs: from the blocks it is handed and the two scratch arrays it
  carries, what it leaves in its outputs and in those arrays.
-/
module

public import proofs.«01_k».proof.Proof.Ideal.Passes

@[expose] public section

set_option maxRecDepth 8192

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F] [Named F] (X : Blocks F)

local notation "𝕄" => MT nD τ sig Unit (Elt F) ℕ (UR sig nD τ) ℕ

variable (c : Dev nD) (i : grid0.Coords)
  (arg2 : Memref sig .tc .vmem S1x512x64 .fp8e4m3) (harg2 : arg2.IsWhole) (arg3 : Memref sig .tc .vmem S1x1x512 .f32) (harg3 : arg3.IsWhole)
  (arg4 : Memref sig .tc .vmem S1x1x512 .i32) (harg4 : arg4.IsWhole) (arg5 : Memref sig .tc .vmem S1x4096x64 .fp8e4m3) (harg5 : arg5.IsWhole)
  (arg6 : Memref sig .tc .vmem S1x4096x1 .f32) (harg6 : arg6.IsWhole) (arg7 : Memref sig .tc .vmem S1x4096x1 .f32) (harg7 : arg7.IsWhole)
  (arg8 : Memref sig .tc .vmem S1x4096x1 .i32) (harg8 : arg8.IsWhole) (arg9 : Memref sig .tc .vmem S1x512x64 .fp8e4m3) (harg9 : arg9.IsWhole)
  (arg10 : Memref sig .tc .vmem S1x1x512 .f32) (harg10 : arg10.IsWhole) (arg11 : Memref sig .tc .vmem S1x1x512 .f32) (harg11 : arg11.IsWhole)
  (arg12 : Memref sig .tc .vmem S1x1x512 .f32) (harg12 : arg12.IsWhole) (arg13 : Memref sig .tc .vmem S1x512x64 .bf16) (harg13 : arg13.IsWhole)
  (arg14 : Memref sig .tc .vmem S1x4096x64 .bf16) (harg14 : arg14.IsWhole) (arg15 : Memref sig .tc .vmem S4096x512 .f32) (harg15 : arg15.IsWhole)
  (arg16 : Memref sig .tc .vmem S4096x512 .bf16) (harg16 : arg16.IsWhole) (arg17 : Memref sig .tc .vmem S64x4096 .bf16) (harg17 : arg17.IsWhole)
  (arg18 : Memref sig .tc .vmem S64x4096 .f32) (harg18 : arg18.IsWhole)

/-- A load of a whole view whose contents are known. -/
theorem load_full {κ : Kind} {sp : Space} {s : Shape} {e : EltTy} (v : View sig κ sp s e) (f : v.ty.Contents (Elt F)) {x : s.Idx → Elt F e}
    (h : v.read (Elt F) f = x) {off : Fin s.rank → ℕ} (inb : ∀ a, off a + s.size a ≤ s.size a) :
    v.readAt (Elt F) (Rect.unit (s := s) off s.size inb).toLoadRect f = x := by
  subst h; exact View.readAt_full v f inb

/-- The first pass, whole. -/
theorem run_loop1 (v29 : FVec F S1x512 .f32) (v30 : FVec F S8x512 .f32) (K : FVec F S8x512 .f32 → sProp 𝕄) :
    iprop(inv1 X c arg5 arg6 arg7 arg8 arg15 0 (m8 X 0) ∗ (∀ acc, inv1 X c arg5 arg6 arg7 arg8 arg15 k0_t1_loop.trips acc -∗ K acc))
      ⊢ wp frame (wpE (defs₀ (F := F)) Variants.none c none) Set.univ
          (Scf.Loop.for k0_t1_loop k0_t1_ok (k0_pay12 (F := F)) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay6 X.uc) (k0_pay7 X.us) (k0_pay8 X.uid) v29 v30)) K :=
  Scf.wp_for _ _ _ _ _ _ _ _ _ _ fun k acc => step1 X c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v29 v30 k acc

/-- The second pass, whole. -/
theorem run_loop2 (v1 : FVec F S512x64 .fp8e4m3) (v3 : FVec F S1x512 .f32) (v5 : IVec S1x512 32) (v30 : FVec F S8x512 .f32) (K : FVec F S8x512 .f32 → sProp 𝕄) :
    iprop(inv2 X c arg15 arg16 0 (den8 X 0) ∗ (∀ acc, inv2 X c arg15 arg16 k0_t2_loop.trips acc -∗ K acc))
      ⊢ wp frame (wpE (defs₀ (F := F)) Variants.none c none) Set.univ
          (Scf.Loop.for k0_t2_loop k0_t2_ok (k0_pay17 (F := F)) (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 (xii X) v30 (mAll X))) K :=
  Scf.wp_for _ _ _ _ _ _ _ _ _ _ fun k acc => step2 X c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 v30 k acc

/-- The third pass, whole. -/
theorem run_loop3 (vt : Vec F S64x4096 .bf16) (D : Vec F S64x4096 .f32) (K : FVec F S64x512 .f32 → sProp 𝕄) :
    iprop(inv3 X c arg16 arg17 arg18 vt D 0 (uAcc X vt 0) ∗ (∀ acc, inv3 X c arg16 arg17 arg18 vt D k0_t3_loop.trips acc -∗ K acc))
      ⊢ wp frame (wpE (defs₀ (F := F)) Variants.none c none) Set.univ
          (Scf.Loop.for k0_t3_loop k0_t3_ok (k0_pay30 (F := F)) (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (hi X) (lo X))) K :=
  Scf.wp_for _ _ _ _ _ _ _ _ _ _ fun k acc => step3 X c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vt D k acc

/-- The point's first part: the blocks read, and at a group's first point the carried arrays set. -/
theorem run_part1 (vt : Vec F S64x4096 .bf16) (D : Vec F S64x4096 .f32) (K : _ → sProp 𝕄) :
    iprop(held c arg2 X.uc ∗ held c arg3 X.us ∗ held c arg4 X.uid ∗ held c arg5 X.vc ∗ held c arg6 X.vs ∗ held c arg9 X.vcd ∗ held c arg10 X.vsd ∗ held c arg11 X.lqd ∗ held c arg17 vt ∗ held c arg18 D
        ∗ (iprop(held c arg2 X.uc ∗ held c arg3 X.us ∗ held c arg4 X.uid ∗ held c arg5 X.vc ∗ held c arg6 X.vs ∗ held c arg9 X.vcd ∗ held c arg10 X.vsd ∗ held c arg11 X.lqd ∗ held c arg17 (vtNow X i vt) ∗ held c arg18 (dNow i D))
            -∗ K ⟨BitVec.ofNat 32 (i 1).val, k0_pay6 X.uc, k0_pay7 X.us, k0_pay8 X.uid, xii X, k0_pay12 (F := F)⟩))
      ⊢ wp frame (wpE (defs₀ (F := F)) Variants.none c none) Set.univ
          (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold held owns
  iintro ⟨⟨%f2, %h2, H2⟩, ⟨%f3, %h3, H3⟩, ⟨%f4, %h4, H4⟩, ⟨%f5, %h5, H5⟩, ⟨%f6, %h6, H6⟩, ⟨%f9, %h9, H9⟩, ⟨%f10, %h10, H10⟩, ⟨%f11, %h11, H11⟩, ⟨%f17, %h17, H17⟩, ⟨%f18, %h18, H18⟩, HK⟩
  have e2 := load_full arg2.view f2 h2 inb_S1x512x64_S1x512x64_0_0_0
  have e3 := load_full arg3.view f3 h3 inb_S1x1x512_S1x1x512_0_0_0
  have e4 := load_full arg4.view f4 h4 inb_S1x1x512_S1x1x512_0_0_0
  have e5 := load_full arg5.view f5 h5 inb_S1x4096x64_S1x4096x64_0_0_0
  have e6 := load_full arg6.view f6 h6 inb_S1x4096x1_S1x4096x1_0_0_0
  have e9 := load_full arg9.view f9 h9 inb_S1x512x64_S1x512x64_0_0_0
  have e10 := load_full arg10.view f10 h10 inb_S1x1x512_S1x1x512_0_0_0
  have e11 := load_full arg11.view f11 h11 inb_S1x1x512_S1x1x512_0_0_0
  rw [k0_part1_eq_skeleton]; unfold k0_part1_skel vtNow dNow xii
  by_cases hc : First i
  · rw [if_pos hc, if_pos hc]
    sl_exec (disch := sl_exact hc)
    sl_step
    iapply HK
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; · ipureintro; exact h6
      iexact H6
    isplitl [H9]
    · iexists _; isplitr; · ipureintro; exact h9
      iexact H9
    isplitl [H10]
    · iexists _; isplitr; · ipureintro; exact h10
      iexact H10
    isplitl [H11]
    · iexists _; isplitr; · ipureintro; exact h11
      iexact H11
    isplitl [H17]
    · iexists _; isplitr; swap; · iexact H17
      ipureintro; exact View.read_writes_full ..
    iexists _; isplitr; swap; · iexact H18
    ipureintro; exact View.read_writes_full ..
  · rw [if_neg hc, if_neg hc]
    sl_exec (disch := sl_exact hc)
    sl_step
    iapply HK
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; · ipureintro; exact h6
      iexact H6
    isplitl [H9]
    · iexists _; isplitr; · ipureintro; exact h9
      iexact H9
    isplitl [H10]
    · iexists _; isplitr; · ipureintro; exact h10
      iexact H10
    isplitl [H11]
    · iexists _; isplitr; · ipureintro; exact h11
      iexact H11
    isplitl [H17]
    · iexists _; isplitr; · ipureintro; exact h17
      iexact H17
    iexists _; isplitr; · ipureintro; exact h18
    iexact H18

/-- The point's second part: the two passes that make the running maximum and the running sum, and the losses stored. -/
theorem run_part2 (K : _ → sProp 𝕄) :
    iprop(held c arg5 X.vc ∗ held c arg6 X.vs ∗ held c arg7 X.lq ∗ held c arg8 X.vid ∗ (∃ d, held c arg12 d) ∗ (∃ d, held c arg15 d) ∗ (∃ d, held c arg16 d)
        ∗ (iprop(held c arg5 X.vc ∗ held c arg6 X.vs ∗ held c arg7 X.lq ∗ held c arg8 X.vid ∗ held c arg12 (loss X) ∗ heldSat c arg15 (XTiles X k0_t1_loop.trips) ∗ heldSat c arg16 (ETiles X k0_t2_loop.trips))
            -∗ K ⟨rden X, gii X, ut X, hi X, lo X, k0_pay30 (F := F), 0#32⟩))
      ⊢ wp frame (wpE (defs₀ (F := F)) Variants.none c none) Set.univ
          (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay6 X.uc) (k0_pay7 X.us) (k0_pay8 X.uid) (xii X) (k0_pay12 (F := F))) K := by
  rw [k0_part2_eq_skeleton]; unfold k0_part2_skel
  iintro ⟨H5, H6, H7, H8, ⟨%d12, H12⟩, ⟨%d15, H15⟩, ⟨%d16, H16⟩, HK⟩
  rw [wp_bind]
  iapply (run_loop1 X c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
  isplitl [H5 H6 H7 H8 H15]
  · unfold inv1
    isplitl [H5]; · iexact H5
    isplitl [H6]; · iexact H6
    isplitl [H7]; · iexact H7
    isplitl [H8]; · iexact H8
    isplitl [H15]
    · iapply (ownsSat_intro (h := fun j hj => absurd hj (Nat.not_lt_zero _))); iexact H15
    ipureintro; rfl
  iintro %acc HI
  unfold inv1
  icases HI with ⟨H5, H6, H7, H8, H15, %hacc⟩
  subst hacc
  rw [wp_bind]
  iapply (run_loop2 X c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
  isplitl [H15 H16]
  · unfold inv2
    isplitl [H15]; · iexact H15
    isplitl [H16]
    · iapply (ownsSat_intro (h := fun j hj => absurd hj (Nat.not_lt_zero _))); iexact H16
    ipureintro; rfl
  iintro %acc HI
  unfold inv2
  icases HI with ⟨H15, H16, %hacc⟩
  subst hacc
  unfold held owns
  icases H12 with ⟨%f12, %h12, H12⟩
  sl_exec
  sl_step
  iapply HK
  isplitl [H5]; · iexact H5
  isplitl [H6]; · iexact H6
  isplitl [H7]; · iexact H7
  isplitl [H8]; · iexact H8
  isplitl [H12]
  · iexists _; isplitr; swap; · iexact H12
    ipureintro; exact View.read_writes_full ..
  isplitl [H15]; · iexact H15
  iexact H16

/-- **One grid point**: the inputs as they were, the losses and the user gradients stored, the item gradients stored at
    a group's last point, the carried arrays one point further. -/
theorem run_body (vt : Vec F S64x4096 .bf16) (D : Vec F S64x4096 .f32) (d14 : Vec F S1x4096x64 .bf16) (K : PUnit → sProp 𝕄) :
    iprop(held c arg2 X.uc ∗ held c arg3 X.us ∗ held c arg4 X.uid ∗ held c arg5 X.vc ∗ held c arg6 X.vs ∗ held c arg7 X.lq ∗ held c arg8 X.vid ∗ held c arg9 X.vcd ∗ held c arg10 X.vsd ∗ held c arg11 X.lqd ∗ (∃ d, held c arg12 d) ∗ (∃ d, held c arg13 d) ∗ held c arg14 d14 ∗ (∃ d, held c arg15 d) ∗ (∃ d, held c arg16 d) ∗ held c arg17 vt ∗ held c arg18 D
        ∗ (iprop(held c arg2 X.uc ∗ held c arg3 X.us ∗ held c arg4 X.uid ∗ held c arg5 X.vc ∗ held c arg6 X.vs ∗ held c arg7 X.lq ∗ held c arg8 X.vid ∗ held c arg9 X.vcd ∗ held c arg10 X.vsd ∗ held c arg11 X.lqd ∗ held c arg12 (loss X) ∗ held c arg13 (du X i (vtNow X i vt))
              ∗ held c arg14 (if Last i then k0_pay5 (dAfter X i (dNow i D)) else d14) ∗ (∃ d, held c arg15 d) ∗ (∃ d, held c arg16 d)
              ∗ held c arg17 (vtNow X i vt) ∗ held c arg18 (dAfter X i (dNow i D))) -∗ K ⟨⟩))
      ⊢ wp frame (wpE (defs₀ (F := F)) Variants.none c none) Set.univ
          (cc0_inbatch_softmax (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_inbatch_softmax_eq_skeleton]; unfold cc0_inbatch_softmax_skel
  iintro ⟨H2, H3, H4, H5, H6, H7, H8, H9, H10, H11, H12, ⟨%d13, H13⟩, H14, H15, H16, H17, H18, HK⟩
  rw [wp_bind]
  iapply (run_part1 X c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 vt D)
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H17]; · iexact H17
  isplitl [H18]; · iexact H18
  iintro ⟨H2, H3, H4, H5, H6, H9, H10, H11, H17, H18⟩
  dsimp only
  rw [wp_bind]
  iapply (run_part2 X c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
  isplitl [H5]; · iexact H5
  isplitl [H6]; · iexact H6
  isplitl [H7]; · iexact H7
  isplitl [H8]; · iexact H8
  isplitl [H12]; · iexact H12
  isplitl [H15]; · iexact H15
  isplitl [H16]; · iexact H16
  iintro ⟨H5, H6, H7, H8, H12, H15, H16⟩
  dsimp only
  rw [wp_bind]
  iapply (run_loop3 X c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (vtNow X i vt) (dNow i D))
  isplitl [H16 H17 H18]
  · unfold inv3
    isplitl [H16]; · iexact H16
    isplitl [H17]; · iexact H17
    isplitl [H18]; · iexact H18
    ipureintro; rfl
  iintro %acc HI
  unfold inv3
  icases HI with ⟨H16, H17, H18, %hacc⟩
  subst hacc
  generalize vtNow X i vt = vt'
  unfold du dAfter
  generalize dAcc X (dNow i D) k0_t3_loop.trips = D'
  unfold held owns
  icases H13 with ⟨%f13, %h13, H13⟩
  icases H14 with ⟨%f14, %h14, H14⟩
  icases H17 with ⟨%f17, %h17, H17⟩
  icases H18 with ⟨%f18, %h18, H18⟩
  have e17 := load_eq arg17.view f17 h17 (k0_off7 i) S64x512.size (k0_off7_inb i)
  have e18 := load_eq arg18.view f18 h18 (k0_off7 i) S64x512.size (k0_off7_inb i)
  have w18 : ∀ w, arg18.view.read (Elt F) (arg18.view.writes (Elt F) f18 [⟨Rect.unit (s := S64x4096) (k0_off7 i) S64x512.size (k0_off7_inb i), w⟩])
      = put D' (k0_off7 i) S64x512.size w := fun w => by
    rw [View.read_writes_cons_put _ _ _ _ _ rfl, View.writes_nil, h18]
  by_cases hc : Last i
  · rw [if_pos hc]
    sl_exec (disch := sl_exact hc)
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap; · iexact H13
      ipureintro; exact View.read_writes_full ..
    isplitl [H14]
    · iexists _; isplitr; swap; · iexact H14
      ipureintro
      exact (View.read_writes_full ..).trans (congrArg k0_pay5 ((View.readAt_full ..).trans (w18 _)))
    isplitl [H15]; · iapply (ownsSat_any); iexact H15
    isplitl [H16]; · iapply (ownsSat_any); iexact H16
    isplitl [H17]
    · iexists _; isplitr; · ipureintro; exact h17
      iexact H17
    iexists _; isplitr; swap; · iexact H18
    ipureintro; exact w18 _
  · rw [if_neg hc]
    sl_exec (disch := sl_exact hc)
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap; · iexact H13
      ipureintro; exact View.read_writes_full ..
    isplitl [H14]
    · iexists _; isplitr; · ipureintro; exact h14
      iexact H14
    isplitl [H15]; · iapply (ownsSat_any); iexact H15
    isplitl [H16]; · iapply (ownsSat_any); iexact H16
    isplitl [H17]
    · iexists _; isplitr; · ipureintro; exact h17
      iexact H17
    iexists _; isplitr; swap; · iexact H18
    ipureintro; exact w18 _

end Cert.KernelIdeal.Point

end
-- ==== Proof.Ideal.Frame.lean ====
/-
  The launch: what every grid point leaves, point by point (the two scratch arrays a group carries from row block to row
  block included), and from it the run of the whole program and its frame.
-/
module

public import proofs.«01_k».proof.Proof.Ideal.Body
public import proofs.«01_k».proof.Proof.Gen.KernelIdeal.Frame
public import Idealize.ShloMosaic.Lib.Claim

@[expose] public section

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

/-- A point is its group's first exactly where its number is a multiple of eight. -/
theorem first_iff (t : Fin cfg0.N) : First (grid0.coords t) ↔ t.val % 8 = 0 := by
  have e1 : (grid0.coords t 1).val = t.val / 1 % 8 := Pipeline.Grid.coords_val t 1 (by decide) rfl
  simp only [First, e1]
  word_cmp

/-- A point is its group's last exactly where its number is seven past a multiple of eight. -/
theorem last_iff (t : Fin cfg0.N) : Last (grid0.coords t) ↔ t.val % 8 = 7 := by
  have e1 : (grid0.coords t 1).val = t.val / 1 % 8 := Pipeline.Grid.coords_val t 1 (by decide) rfl
  simp only [Last, k0_cond2, e1]
  word_cmp

theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
theorem liveAt0_4 (t : Fin cfg0.N) : cfg0.idle 4 (grid0.coords t) = false := rfl
theorem liveAt0_5 (t : Fin cfg0.N) : cfg0.idle 5 (grid0.coords t) = false := rfl
theorem liveAt0_6 (t : Fin cfg0.N) : cfg0.idle 6 (grid0.coords t) = false := rfl
theorem liveAt0_7 (t : Fin cfg0.N) : cfg0.idle 7 (grid0.coords t) = false := rfl
theorem liveAt0_8 (t : Fin cfg0.N) : cfg0.idle 8 (grid0.coords t) = false := rfl
theorem liveAt0_9 (t : Fin cfg0.N) : cfg0.idle 9 (grid0.coords t) = false := rfl
theorem liveAt0_10 (t : Fin cfg0.N) : cfg0.idle 10 (grid0.coords t) = false := rfl
theorem liveAt0_11 (t : Fin cfg0.N) : cfg0.idle 11 (grid0.coords t) = false := rfl

/-- The item gradients' window is idle, and not written back, at a point that is not its group's last. -/
theorem idleAt0_12 : ∀ t : Fin cfg0.N, ¬Last (grid0.coords t) → cfg0.idle 12 (grid0.coords t) = true := by decide +kernel
theorem noFlush0_12 : ∀ t : Fin cfg0.N, ¬Last (grid0.coords t) → (cfg0.win 12).flush t = false := by decide +kernel
theorem liveAt0_12 : ∀ t : Fin cfg0.N, Last (grid0.coords t) → cfg0.idle 12 (grid0.coords t) = false := by decide +kernel

/-! The staging memrefs of a point, and the scratch. -/
abbrev ms0_0 (t : Fin cfg0.N) : Memref sig .tc .vmem S1x512x64 .fp8e4m3 := win0_0.stage (cfg0.slots t 0)
abbrev ms0_1 (t : Fin cfg0.N) : Memref sig .tc .vmem S1x1x512 .f32 := win0_1.stage (cfg0.slots t 1)
abbrev ms0_2 (t : Fin cfg0.N) : Memref sig .tc .vmem S1x1x512 .i32 := win0_2.stage (cfg0.slots t 2)
abbrev ms0_3 (t : Fin cfg0.N) : Memref sig .tc .vmem S1x4096x64 .fp8e4m3 := win0_3.stage (cfg0.slots t 3)
abbrev ms0_4 (t : Fin cfg0.N) : Memref sig .tc .vmem S1x4096x1 .f32 := win0_4.stage (cfg0.slots t 4)
abbrev ms0_5 (t : Fin cfg0.N) : Memref sig .tc .vmem S1x4096x1 .f32 := win0_5.stage (cfg0.slots t 5)
abbrev ms0_6 (t : Fin cfg0.N) : Memref sig .tc .vmem S1x4096x1 .i32 := win0_6.stage (cfg0.slots t 6)
abbrev ms0_7 (t : Fin cfg0.N) : Memref sig .tc .vmem S1x512x64 .fp8e4m3 := win0_7.stage (cfg0.slots t 7)
abbrev ms0_8 (t : Fin cfg0.N) : Memref sig .tc .vmem S1x1x512 .f32 := win0_8.stage (cfg0.slots t 8)
abbrev ms0_9 (t : Fin cfg0.N) : Memref sig .tc .vmem S1x1x512 .f32 := win0_9.stage (cfg0.slots t 9)
abbrev ms0_10 (t : Fin cfg0.N) : Memref sig .tc .vmem S1x1x512 .f32 := win0_10.stage (cfg0.slots t 10)
abbrev ms0_11 (t : Fin cfg0.N) : Memref sig .tc .vmem S1x512x64 .bf16 := win0_11.stage (cfg0.slots t 11)
abbrev ms0_12 (t : Fin cfg0.N) : Memref sig .tc .vmem S1x4096x64 .bf16 := win0_12.stage (cfg0.slots t 12)
abbrev scM0_0 : Memref sig .tc .vmem S4096x512 .f32 := Memref.whole cc0_scratch0
abbrev scM0_1 : Memref sig .tc .vmem S4096x512 .bf16 := Memref.whole cc0_scratch1
abbrev scM0_2 : Memref sig .tc .vmem S64x4096 .bf16 := Memref.whole cc0_scratch2
abbrev scM0_3 : Memref sig .tc .vmem S64x4096 .f32 := Memref.whole cc0_scratch3

/-- What the launch hands the pipeline beside its windows: the scratch at anything, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What each point works on and leaves -/

/-- The blocks point `t` is handed. -/
def blks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t⟩

/-- The transposed item vectors carried before point `n` (at the first point nothing is carried: what stands there is not read). -/
def vtAt (c : Dev nD) : ℕ → Vec F S64x4096 .bf16
  | 0 => fun _ => Scalar.ofBits .bf16 0#16
  | n + 1 => if h : n < cfg0.N then vtNow (blks m c ⟨n, h⟩) (grid0.coords ⟨n, h⟩) (vtAt c n) else vtAt c n

/-- The item-gradient accumulator carried before point `n`. -/
def dAt (c : Dev nD) : ℕ → Vec F S64x4096 .f32
  | 0 => k0_pay10
  | n + 1 => if h : n < cfg0.N then dAfter (blks m c ⟨n, h⟩) (grid0.coords ⟨n, h⟩) (dNow (grid0.coords ⟨n, h⟩) (dAt c n)) else dAt c n

theorem vtAt_succ (c : Dev nD) (t : Fin cfg0.N) : vtAt m c (t.val + 1) = vtNow (blks m c t) (grid0.coords t) (vtAt m c t.val) := by
  rw [vtAt.eq_2, dif_pos t.isLt]

theorem dAt_succ (c : Dev nD) (t : Fin cfg0.N) : dAt m c (t.val + 1) = dAfter (blks m c t) (grid0.coords t) (dNow (grid0.coords t) (dAt m c t.val)) := by
  rw [dAt.eq_2, dif_pos t.isLt]

/-- The invariant before point `n`: before the first the scratch at anything, afterwards the two carried arrays at what the
    points before left in them. -/
def PhiS (c : Dev nD) : ℕ → sProp 𝕄
  | 0 => Pipeline.ΦA spec0 c
  | n + 1 => iprop(iprop((∃ d, owns (c : Thread nD τ) scM0_0 fullShare d) ∗ (∃ d, owns (c : Thread nD τ) scM0_1 fullShare d) ∗ owns (c : Thread nD τ) scM0_2 fullShare (vtAt m c (n + 1)) ∗ owns (c : Thread nD τ) scM0_3 fullShare (dAt m c (n + 1))) ∗ (∃ r, prngReg c r))

/-- The pipeline's proof data on core `c`: the arrays as the region finds them; after a point each input's buffer at its
    block, the outputs' at what the point computes; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => loss (blks m c t)
    | ⟨11, _⟩ => du (blks m c t) (grid0.coords t) (vtAt m c (t.val + 1))
    | ⟨12, _⟩ => k0_pay5 (dAt m c (t.val + 1))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = loss (blks m c t) := by dsimp only [dats]
theorem after0_11 (c : Dev nD) (t : Fin cfg0.N) : (dats m 0 c).after 11 t = du (blks m c t) (grid0.coords t) (vtAt m c (t.val + 1)) := by dsimp only [dats]
theorem after0_12 (c : Dev nD) (t : Fin cfg0.N) : (dats m 0 c).after 12 t = k0_pay5 (dAt m c (t.val + 1)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (loss (blks m c t)) := by
  unfold Dat.leavesExact; rw [liveAt0_10 t, after0_10]
theorem leaves0_11 (c : Dev nD) (t : Fin cfg0.N) : (dats m 0 c).leavesExact 11 t
    = owns (c : Thread nD τ) (ms0_11 t) fullShare (du (blks m c t) (grid0.coords t) (vtAt m c (t.val + 1))) := by
  unfold Dat.leavesExact; rw [liveAt0_11 t, after0_11]

/-- The carried arrays as a point finds them: at whatever, at the first point, else as `vtAt` and `dAt` say; either way the
    point works with the same values. -/
theorem Phi_open (c : Dev nD) (t : Fin cfg0.N) :
    PhiS m c t.val ⊢ iprop(∃ vt, ∃ D, ⌜vtNow (blks m c t) (grid0.coords t) vt = vtAt m c (t.val + 1) ∧ dAfter (blks m c t) (grid0.coords t) (dNow (grid0.coords t) D) = dAt m c (t.val + 1)⌝
      ∗ ((∃ d, owns (c : Thread nD τ) scM0_0 fullShare d) ∗ (∃ d, owns (c : Thread nD τ) scM0_1 fullShare d) ∗ owns (c : Thread nD τ) scM0_2 fullShare vt ∗ owns (c : Thread nD τ) scM0_3 fullShare D) ∗ (∃ r, prngReg c r)) := by
  rw [vtAt_succ, dAt_succ]
  rcases hn : t.val with _ | n
  · have hf : First (grid0.coords t) := (first_iff t).2 (by omega)
    rw [show PhiS m c 0 = Pipeline.ΦA spec0 c from rfl, PhiA0_eq]
    iintro ⟨⟨HS0, HS1, ⟨%vt, HS2⟩, ⟨%D, HS3⟩⟩, Hg⟩
    iexists vt; iexists D
    isplitr
    · ipureintro; unfold vtNow dNow; simp only [if_pos hf, and_self]
    isplitr [Hg]; swap; · iexact Hg
    isplitl [HS0]; · iexact HS0
    isplitl [HS1]; · iexact HS1
    isplitl [HS2]; · iexact HS2
    iexact HS3
  · unfold PhiS
    iintro ⟨HS, Hg⟩
    iexists _; iexists _
    isplitr; swap
    · isplitl [HS]; · iexact HS
      iexact Hg
    ipureintro; exact ⟨rfl, rfl⟩

/-- **The body at a point.** -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HΦ := (Phi_open m c t) $$ HΦ
  icases HΦ with ⟨%vt, %D, %hv, ⟨HS0, HS1, HS2, HS3⟩, Hg⟩
  iapply (run_body (blks m c t) c (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ (ms0_11 t) _ (ms0_12 t) _ scM0_0 _ scM0_1 _ scM0_2 _ scM0_3 _ vt D ((dats m 0 c).before 12 t d12))
  rw [hv.1, hv.2]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, H12, HS0, HS1, HS2, HS3⟩
  isplitl [HS0 HS1 HS2 HS3 Hg]
  · unfold PhiS
    isplitr [Hg]; swap; · iexact Hg
    isplitl [HS0]; · iexact HS0
    isplitl [HS1]; · iexact HS1
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  by_cases hl : Last (grid0.coords t)
  · rw [show (dats m 0 c).leavesExact 12 t = owns (c : Thread nD τ) (ms0_12 t) fullShare ((dats m 0 c).after 12 t) from by
      unfold Dat.leavesExact; rw [liveAt0_12 t hl], after0_12]
    rw [if_pos hl]
    iexact H12
  · rw [if_neg hl, Dat.leavesExact_idle (dats m 0 c) 12 t (idleAt0_12 t hl) (noFlush0_12 t hl)]
    iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  obtain ⟨n, hn⟩ := Nat.exists_eq_succ_of_ne_zero ht
  rw [show (dats m 0 c).Φ t = PhiS m c t.val from rfl, hn, PhiA0_eq]; unfold PhiS
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean), at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Point

end
-- ==== Proof.Printed.lean ====
/-
  The program as it is printed: it differs from the idealized one in five float constants only, which the idealized
  program names. Read with every name at the float its bits spell, the idealized program IS the printed one, so what was
  proved of its runs at any values holds of the printed program.
-/
module

public import proofs.«01_k».proof.Proof.Gen.Kernel
public import proofs.«01_k».proof.Proof.Ideal.Frame

@[expose] public section

set_option maxRecDepth 65536

noncomputable section

namespace Cert.Kernel.Point

open Idealize.ShloMosaic Idealize.SL.Sem

variable {F : FTy → Type} [FloatOps F]

/-- Every named constant at the float its bits spell. -/
local instance asPrinted : Named F := ⟨fun _ _ {φ} b => Scalar.ofBits φ b⟩

variable (m : (ℓ : Loc Cert.Kernel.nD Cert.Kernel.τ Cert.Kernel.sig) → Buf (Elt F) ℓ) (ρ : Dev Cert.Kernel.nD → PrngReg)

/-- The two host programs are one. -/
theorem main_eq : Cert.Kernel.main (F := F) = Cert.KernelIdeal.main (F := F) := rfl

/-- The two bodies are one function. -/
theorem body_eq : @Cert.Kernel.cc0_inbatch_softmax F _ _ = @Cert.KernelIdeal.cc0_inbatch_softmax F _ _ _ := rfl

set_option maxHeartbeats 2000000 in
/-- The two body tables are one: past the body, which is compared once, only its arguments are left. -/
theorem defs₀_eq : Cert.Kernel.defs₀ (F := F) = Cert.KernelIdeal.defs₀ (F := F) := by
  unfold Cert.Kernel.defs₀ Cert.KernelIdeal.defs₀
  rw [body_eq]
  refine congrArg (Defs.onTc (nD := Cert.KernelIdeal.nD) (τ := Cert.KernelIdeal.τ) (sig := Cert.KernelIdeal.sig) (Val := Elt F) (Λ := Cert.KernelIdeal.Λ₀)) ?_
  generalize hb : @Cert.KernelIdeal.cc0_inbatch_softmax F _ _ _ = B
  funext l a
  unfold Cert.Kernel.defs₀.match_1 Cert.KernelIdeal.defs₀.match_1
  rfl

/-- The two tables with the pipelines' own bodies are one. -/
theorem defs_eq : Cert.Kernel.defs (F := F) = Cert.KernelIdeal.defs (F := F) := congrArg (Pipeline.defs Cert.KernelIdeal.pcfgs) defs₀_eq

/-- The printed program runs, leaves its arguments as they were and every semaphore at zero. -/
theorem frame : θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq, main_eq]
  exact Cert.KernelIdeal.Point.frame (F := F) m ρ

end Cert.Kernel.Point

end
-- ==== Proof.Value.Math.lean ====
/-
  The mathematics of the in-batch softmax over the reals, one group at a time: scores, weights, the denominator, the
  losses and the two gradients. An item whose id is the user's is left out of a user's softmax, save the user's own
  positive, whose weight is therefore written apart (`own`). No program in sight.
-/
module

public import Idealize.ShloMosaic.Lib.Pipeline.ValueKit

@[expose] public section

noncomputable section

namespace Cert.Softmax

/-- One group's real data: user and item codes and scales, log-probabilities, item ids. -/
structure Group where
  /-- user codes -/
  uc : Fin 4096 → Fin 64 → ℝ
  /-- user scales -/
  us : Fin 4096 → ℝ
  /-- item codes -/
  vc : Fin 4096 → Fin 64 → ℝ
  /-- item scales -/
  vs : Fin 4096 → ℝ
  /-- item log-probabilities -/
  lq : Fin 4096 → ℝ
  /-- item ids -/
  id : Fin 4096 → BitVec 32

namespace Group

variable (A : Group)

/-- A user's vector. -/
def u (i : Fin 4096) (d : Fin 64) : ℝ := A.uc i d * A.us i

/-- An item's vector. -/
def v (j : Fin 4096) (d : Fin 64) : ℝ := A.vc j d * A.vs j

/-- The score of item `j` for user `i`. -/
def score (i j : Fin 4096) : ℝ := (∑ d, A.u i d * A.v j d) * 20 - A.lq j

/-- The weight of item `j` for user `i`, none where the ids agree. -/
def off (i j : Fin 4096) : ℝ := if A.id j = A.id i then 0 else Real.exp (A.score i j)

/-- The weight of the user's own positive. -/
def own (i : Fin 4096) : ℝ := Real.exp (A.score i i)

/-- The softmax denominator. -/
def den (i : Fin 4096) : ℝ := ∑ j, A.off i j + A.own i

/-- The loss. -/
def loss (i : Fin 4096) : ℝ := Real.log (A.den i) - A.score i i

/-- The positive's softmax probability less one. -/
def gap (i : Fin 4096) : ℝ := A.own i / A.den i - 1

/-- The user gradient. -/
def du (i : Fin 4096) (d : Fin 64) : ℝ := ((∑ j, A.v j d * A.off i j) / A.den i + A.gap i * A.v i d) * 20

/-- What user `i` adds to the gradient of item `j`, before the temperature. -/
def part (j : Fin 4096) (d : Fin 64) (i : Fin 4096) : ℝ :=
  A.u i d / A.den i * A.off i j + if i = j then A.gap i * A.u i d else 0

/-- The item gradient. -/
def dv (j : Fin 4096) (d : Fin 64) : ℝ := (∑ i, A.part j d i) * 20

theorem off_nonneg (i j : Fin 4096) : 0 ≤ A.off i j := by
  unfold off; split
  · exact le_rfl
  · exact (Real.exp_pos _).le

theorem own_pos (i : Fin 4096) : 0 < A.own i := Real.exp_pos _

theorem den_pos (i : Fin 4096) : 0 < A.den i :=
  add_pos_of_nonneg_of_pos (Finset.sum_nonneg fun j _ => A.off_nonneg i j) (A.own_pos i)

/-- An item's own id is always its own, so its weight is not among the others'. -/
theorem off_self (i : Fin 4096) : A.off i i = 0 := if_pos rfl

/-- The weights with the positive put back in its place. -/
def all (i j : Fin 4096) : ℝ := if A.id i = A.id j ∧ i ≠ j then 0 else Real.exp (A.score i j)

theorem all_eq (i j : Fin 4096) : A.all i j = A.off i j + if i = j then A.own i else 0 := by
  unfold all off own
  by_cases h : i = j
  · subst h; simp
  · by_cases h' : A.id i = A.id j
    · simp [h, h']
    · simp [h, h', Ne.symm h']

theorem sum_all (i : Fin 4096) : ∑ j, A.all i j = A.den i := by
  simp only [all_eq, Finset.sum_add_distrib, Finset.sum_ite_eq, Finset.mem_univ, if_true, den]

/-- A user's gradient from the probabilities. -/
theorem du_eq (i : Fin 4096) (d : Fin 64) :
    (∑ j, (A.all i j / A.den i - if i = j then 1 else 0) * A.v j d) * 20 = A.du i d := by
  have h : ∀ j, (A.all i j / A.den i - if i = j then 1 else 0) * A.v j d
      = A.v j d * A.off i j / A.den i + if i = j then A.gap i * A.v i d else 0 := fun j => by
    rw [all_eq]; unfold gap
    by_cases h : i = j
    · subst h; simp; ring
    · simp [h]; ring
  simp only [h, Finset.sum_add_distrib, Finset.sum_ite_eq, Finset.mem_univ, if_true, ← Finset.sum_div, du]

/-- An item's gradient from the probabilities. -/
theorem dv_eq (j : Fin 4096) (d : Fin 64) :
    (∑ i, (A.all i j / A.den i - if i = j then 1 else 0) * A.u i d) * 20 = A.dv j d := by
  unfold dv
  congr 1
  refine Finset.sum_congr rfl fun i _ => ?_
  rw [all_eq]; unfold part gap
  by_cases h : i = j
  · subst h; simp; ring
  · simp [h]; ring

end Group

/-! ## Sums in tiles -/

/-- The `r`-th place of the `b`-th block of 512. -/
def place (b : Fin 8) (r : Fin 512) : Fin 4096 := ⟨b.val * 512 + r.val, by omega⟩

theorem place_inj {b b' : Fin 8} {r r' : Fin 512} : place b r = place b' r' ↔ b = b' ∧ r = r' := by
  simp only [place, Fin.ext_iff]; omega

/-- A sum over 4096 is eight sums over 512. -/
theorem sum_place {M : Type*} [AddCommMonoid M] (f : Fin 4096 → M) : ∑ i, f i = ∑ b, ∑ r, f (place b r) := by
  rw [← Fintype.sum_prod_type']
  refine (Fintype.sum_equiv (finProdFinEquiv (m := 8) (n := 512)) (fun p => f (place p.1 p.2)) f fun p => ?_).symm
  congr 1; simp only [place, finProdFinEquiv, Equiv.coe_fn_mk, Fin.ext_iff]; omega

/-- A sum over 512 is eight sums over the places `8a + s`. -/
theorem sum_lanes {M : Type*} [AddCommMonoid M] (f : Fin 512 → M) :
    ∑ r, f r = ∑ s : Fin 8, ∑ a : Fin 64, f ⟨a.val * 8 + s.val, by omega⟩ := by
  rw [Finset.sum_comm, ← Fintype.sum_prod_type']
  refine (Fintype.sum_equiv (finProdFinEquiv (m := 64) (n := 8))
    (fun p => f ⟨p.1.val * 8 + p.2.val, by omega⟩) f fun p => ?_).symm
  congr 1; simp only [finProdFinEquiv, Equiv.coe_fn_mk, Fin.ext_iff]; omega

/-! ## Reals among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A running sum of reals, from its first value and its steps. -/
theorem running_sum {N : ℕ} (a : ℕ → EReal) (a0 : ℝ) (f : Fin N → ℝ) (h0 : a 0 = (a0 : EReal))
    (hs : ∀ k : Fin N, a (k.val + 1) = a k.val + (f k : EReal)) : a N = ((a0 + ∑ k, f k : ℝ) : EReal) := by
  have key : ∀ n (h : n ≤ N), a n = ((a0 + ∑ k : Fin n, f (k.castLE h) : ℝ) : EReal) := by
    intro n
    induction n with
    | zero => intro _; simpa using h0
    | succ n ih =>
      intro h
      rw [hs ⟨n, h⟩, ih (Nat.le_of_succ_le h), ← EReal.coe_add, Fin.sum_univ_castSucc, add_assoc]
      rfl
  exact key N le_rfl

/-- A running maximum of values below the top stays below it. -/
theorem fold_max_ne_top {ι : Type*} (s : Finset ι) (f : ι → EReal) (hf : ∀ i, f i ≠ ⊤) : s.fold max ⊥ f ≠ ⊤ :=
  ((Finset.fold_max_lt (s := s) (f := f) (b := (⊥ : EReal)) (c := ⊤)).2 ⟨bot_lt_top, fun i _ => lt_top_iff_ne_top.2 (hf i)⟩).ne

/-- A base-two exponential of a number in base-two units. -/
theorem two_rpow_div (x : ℝ) : Real.rpow 2 (x * (Real.log 2)⁻¹) = Real.exp x := by
  show (2 : ℝ) ^ (x * (Real.log 2)⁻¹) = _
  have h : Real.log 2 ≠ 0 := (Real.log_pos (by norm_num)).ne'
  rw [Real.rpow_def_of_pos (by norm_num)]
  congr 1
  field_simp

end Cert.Softmax

end
-- ==== Proof.Value.Args.lean ====
/-
  The argument arrays as real data: each group's users and items, read off arrays whose entries are real numbers.
-/
module

public import proofs.«01_k».proof.Proof.Value.Math
public import proofs.«01_k».proof.Proof.Gen.KernelIdeal

@[expose] public section

noncomputable section

namespace Cert.Softmax

open Idealize.ShloMosaic Idealize.SL.Sem Cert.KernelIdeal

/-- The argument arrays, in the program's order. -/
structure Args where
  uc : FVec Ideal S8x4096x64 .f32
  us : FVec Ideal S8x4096 .f32
  vc : FVec Ideal S8x4096x64 .f32
  vs : FVec Ideal S8x4096 .f32
  lq : FVec Ideal S8x4096 .f32
  id : IVec S8x4096 32

/-- An array of real numbers. -/
def Reals {s : Shape} (x : FVec Ideal s .f32) : Prop := ∀ i, (x i : EReal) ≠ ⊤ ∧ (x i : EReal) ≠ ⊥

theorem Reals.coe {s : Shape} {x : FVec Ideal s .f32} (h : Reals x) (i : s.Idx) : (x i : EReal) = (((x i : EReal).toReal : ℝ) : EReal) :=
  (EReal.coe_toReal (h i).1 (h i).2).symm

/-- Every float array holds real numbers. -/
structure Args.Real (x : Args) : Prop where
  uc : Reals x.uc
  us : Reals x.us
  vc : Reals x.vc
  vs : Reals x.vs
  lq : Reals x.lq

/-- A group's data. -/
def Args.group (x : Args) (g : Fin 8) : Group where
  uc i d := (x.uc (ix3 g i d) : EReal).toReal
  us i := (x.us (ix2 g i) : EReal).toReal
  vc j d := (x.vc (ix3 g j d) : EReal).toReal
  vs j := (x.vs (ix2 g j) : EReal).toReal
  lq j := (x.lq (ix2 g j) : EReal).toReal
  id j := x.id (ix2 g j)

end Cert.Softmax

end
-- ==== Proof.Value.Consts.lean ====
/-
  The constants of the program and of the reference as numbers: the named ones at their exact values, the others at
  the values of their bits.
-/
module

public import proofs.«01_k».proof.Proof.Value.Math
public import proofs.«01_k».proof.Proof.Ideal.Point

@[expose] public section

noncomputable section

namespace Cert.Softmax

open Idealize.ShloMosaic Idealize.SL.Sem

theorem bits_bot : Ideal.ofBits .f32 4286578688#32 = (⊥ : EReal) := by
  simp [Ideal.ofBits, Ideal.ieee]

theorem bits_top : Ideal.ofBits .f32 0x7F800000#32 = (⊤ : EReal) := by
  simp [Ideal.ofBits, Ideal.ieee]

theorem bits_zero : Ideal.ofBits .f32 0#32 = ((0 : ℝ) : EReal) := by
  simp [Ideal.ofBits, Ideal.ieee]

theorem bits_one : Ideal.ofBits .f32 1065353216#32 = ((1 : ℝ) : EReal) := by
  simp [Ideal.ofBits, Ideal.ieee, -EReal.coe_mul]
  norm_num

theorem bits_twenty : Ideal.ofBits .f32 1101004800#32 = ((20 : ℝ) : EReal) := by
  simp [Ideal.ofBits, Ideal.ieee, -EReal.coe_mul]
  norm_num

/-- One over log two. -/
abbrev l2 : ℝ := (Real.log 2)⁻¹

theorem named_tau : (Named.named Cert.KernelIdeal.κ "tau_log2e" 1105646794#32 : Ideal .f32) = ((20 * l2 : ℝ) : EReal) :=
  IdealRules.named_const.ideal_named_scalar _ _ _ _ rfl

theorem named_log2e : (Named.named Cert.KernelIdeal.κ "log2e" 1069066811#32 : Ideal .f32) = ((l2 : ℝ) : EReal) :=
  IdealRules.named_const.ideal_named_scalar _ _ _ _ rfl

theorem named_ln2 : (Named.named Cert.KernelIdeal.κ "ln2" 1060205080#32 : Ideal .f32) = ((Real.log 2 : ℝ) : EReal) :=
  IdealRules.named_const.ideal_named_scalar _ _ _ _ rfl

/-- A choice by an equality of words. -/
theorem select_words {α : Type} {w : ℕ} (a b : BitVec w) (x y : α) :
    Scalar.select (IntOp.cmpi .eq a b) x y = if a = b then x else y := by
  by_cases h : a = b
  · subst h; simp [IntOp.cmpi, Scalar.select]
  · simp [IntOp.cmpi, h, Scalar.select, beq_eq_false_iff_ne.2 h]

/-- Numbers below 4096 are equal as words exactly where they are equal. -/
theorem words_inj {a b : ℕ} (ha : a < 4096) (hb : b < 4096) : BitVec.ofNat 32 a = BitVec.ofNat 32 b ↔ a = b := by
  constructor
  · intro h
    have h' := congrArg BitVec.toNat h
    simp only [BitVec.toNat_ofNat] at h'
    omega
  · rintro rfl; rfl

theorem lane_words (x r : Fin 512) : BitVec.ofNat 32 x.val = BitVec.ofNat 32 r.val ↔ x = r :=
  (words_inj (by omega) (by omega)).trans Fin.ext_iff.symm

theorem item_words (i j : Fin 4096) : BitVec.ofNat 32 i.val = BitVec.ofNat 32 j.val ↔ i = j :=
  (words_inj i.isLt j.isLt).trans Fin.ext_iff.symm

/-- A choice by an equality of words and an inequality of others. -/
theorem select_words_ne {α : Type} {w w' : ℕ} (a b : BitVec w) (c d : BitVec w') (x y : α) :
    Scalar.select (IntOp.andi (IntOp.cmpi .eq a b) (~~~IntOp.cmpi .eq c d)) x y = if a = b ∧ c ≠ d then x else y := by
  by_cases h : a = b <;> by_cases h' : c = d
  · subst h h'; simp [IntOp.cmpi, IntOp.andi, Scalar.select]
  · subst h; simp [IntOp.cmpi, IntOp.andi, h', Scalar.select, beq_eq_false_iff_ne.2 h']
  · subst h'; simp [IntOp.cmpi, IntOp.andi, h, Scalar.select]
  · simp [IntOp.cmpi, IntOp.andi, h, Scalar.select, beq_eq_false_iff_ne.2 h]

/-- An equality of words as a number. -/
theorem indicator {w : ℕ} (a b : BitVec w) :
    (FloatOps.uitofp .f32 (IntOp.cmpi .eq a b) : Ideal .f32) = ((if a = b then 1 else 0 : ℝ) : EReal) := by
  show (((IntOp.cmpi .eq a b).toNat : ℝ) : EReal) = _
  by_cases h : a = b
  · subst h; simp [IntOp.cmpi]
  · simp [IntOp.cmpi, h, beq_eq_false_iff_ne.2 h]

/-- A quotient of reals. -/
theorem div_coe_coe (x : ℝ) {y : ℝ} (hy : y ≠ 0) : Ideal.div (x : EReal) (y : EReal) = ((x / y : ℝ) : EReal) := by
  rw [Ideal.div_coe hy, ← EReal.coe_mul, mul_one_div]

end Cert.Softmax

end
-- ==== Proof.Value.Scores.lean ====
/-
  One grid point over the reals, its first two passes: what the blocks hold, the scores, the running maximum (only that
  it is a real number), the exponentials and the denominator.
-/
module

public import proofs.«01_k».proof.Proof.Value.Consts

@[expose] public section

set_option maxRecDepth 16384

noncomputable section

namespace Cert.KernelIdeal.Point

open Idealize.ShloMosaic Idealize.SL.Sem Cert.KernelIdeal Cert.KernelIdeal.Gen Cert.Softmax
open Idealize.ShloMosaic.VecWindow (window put)

/-- The blocks of a point hold the real data of group `A`, at the group's row block `b`. -/
structure Holds (X : Blocks Ideal) (A : Group) (b : Fin 8) : Prop where
  uc : ∀ (r : Fin 512) (d : Fin 64), X.uc (ix3 0 r d) = (A.uc (place b r) d : EReal)
  us : ∀ r : Fin 512, X.us (ix3 0 0 r) = (A.us (place b r) : EReal)
  uid : ∀ r : Fin 512, X.uid (ix3 0 0 r) = A.id (place b r)
  vc : ∀ (j : Fin 4096) (d : Fin 64), X.vc (ix3 0 j d) = (A.vc j d : EReal)
  vs : ∀ j : Fin 4096, X.vs (ix3 0 j 0) = (A.vs j : EReal)
  lq : ∀ j : Fin 4096, X.lq (ix3 0 j 0) = (A.lq j : EReal)
  vid : ∀ j : Fin 4096, X.vid (ix3 0 j 0) = A.id j
  vcd : ∀ (r : Fin 512) (d : Fin 64), X.vcd (ix3 0 r d) = (A.vc (place b r) d : EReal)
  vsd : ∀ r : Fin 512, X.vsd (ix3 0 0 r) = (A.vs (place b r) : EReal)
  lqd : ∀ r : Fin 512, X.lqd (ix3 0 0 r) = (A.lq (place b r) : EReal)

/-! ## Trips and windows -/

/-- The trip counts: eight each. -/
theorem trips1 : k0_t1_loop.trips = 8 := by decide +kernel
theorem trips2 : k0_t2_loop.trips = 8 := by decide +kernel
theorem trips3 : k0_t3_loop.trips = 8 := by decide +kernel

/-- A trip of the first pass as a block number. -/
abbrev blk1 (k : Fin k0_t1_loop.trips) : Fin 8 := ⟨k.val, lt_of_lt_of_eq k.isLt trips1⟩

theorem window_codes {α : Type} (x : S1x4096x64.Idx → α) (k : Fin k0_t1_loop.trips) (j : Fin 512) (d : Fin 64) :
    window x (k0_off1 k) S1x512x64.size (k0_off1_inb k) (ix3 0 j d) = x (ix3 0 (place (blk1 k) j) d) := by
  have e := congrFun (k0_off1_eq k)
  refine congrArg x (funext fun a => Fin.ext ?_)
  show k0_off1 k a + 1 * _ = _
  fin_cases a
  · refine (congrArg (· + _) (e 0)).trans rfl
  · refine (congrArg (· + _) (e 1)).trans ?_
    show 512 * k.val + 1 * j.val = k.val * 512 + j.val; omega
  · refine (congrArg (· + _) (e 2)).trans ?_
    show 0 + 1 * d.val = d.val; omega

theorem window_column {α : Type} (x : S1x4096x1.Idx → α) (k : Fin k0_t1_loop.trips) (j : Fin 512) :
    window x (k0_off2 k) S1x512x1.size (k0_off2_inb k) (ix3 0 j 0) = x (ix3 0 (place (blk1 k) j) 0) := by
  have e := congrFun (k0_off2_eq k)
  refine congrArg x (funext fun a => Fin.ext ?_)
  show k0_off2 k a + 1 * _ = _
  fin_cases a
  · refine (congrArg (· + _) (e 0)).trans rfl
  · refine (congrArg (· + _) (e 1)).trans ?_
    show 512 * k.val + 1 * j.val = k.val * 512 + j.val; omega
  · refine (congrArg (· + _) (e 2)).trans rfl

/-! ## The scores -/

variable {X : Blocks Ideal} {A : Group} {b : Fin 8}

/-- A score from the codes' dot product. -/
theorem score_codes (A : Group) (i j : Fin 4096) :
    A.score i j = (∑ d, A.vc j d * A.uc i d) * A.us i * A.vs j * 20 - A.lq j := by
  unfold Group.score Group.u Group.v
  simp only [Finset.sum_mul]
  congr 1
  exact Finset.sum_congr rfl fun d _ => by ring

theorem Holds.xii (h : Holds X A b) (r : Fin 512) :
    xii X (ix2 0 r) = ((A.score (place b r) (place b r) * l2 : ℝ) : EReal) := by
  pointwise [Point.xii, k0_pay11, k0_pay6, k0_pay7]
  simp only [h.uc, h.us, h.vcd, h.vsd, h.lqd, named_tau, named_log2e, select_words, lane_words, Finset.sum_ite_eq',
    Finset.mem_univ, if_true, ← EReal.coe_mul, ← coe_sum, ← EReal.coe_sub]
  rw [score_codes]
  congr 1; ring

theorem Holds.xTile (h : Holds X A b) (k : Fin k0_t1_loop.trips) (j r : Fin 512) :
    xTile X k (ix2 j r) = if A.id (place (blk1 k) j) = A.id (place b r) then (⊥ : EReal)
      else ((A.score (place b r) (place (blk1 k) j) * l2 : ℝ) : EReal) := by
  unfold Point.xTile
  have hc := window_codes X.vc k j
  have hs := window_column X.vs k j
  have hq := window_column X.lq k j
  have hid := window_column X.vid k j
  generalize window X.vc (k0_off1 k) S1x512x64.size (k0_off1_inb k) = wc at hc ⊢
  generalize window X.vs (k0_off2 k) S1x512x1.size (k0_off2_inb k) = ws at hs ⊢
  generalize window X.lq (k0_off2 k) S1x512x1.size (k0_off2_inb k) = wq at hq ⊢
  generalize window X.vid (k0_off2 k) S1x512x1.size (k0_off2_inb k) = wid at hid ⊢
  pointwise [k0_pay14, k0_pay13, k0_pay6, k0_pay7, k0_pay8]
  simp only [hc, hs, hq, hid, h.uc, h.us, h.uid, h.vc, h.vs, h.lq, h.vid, named_tau, named_log2e, select_words, bits_bot,
    ← EReal.coe_mul, ← coe_sum, ← EReal.coe_sub]
  rw [score_codes]
  refine if_congr Iff.rfl rfl (congrArg _ ?_)
  ring

/-! ## The maximum is a real number -/

/-- One more tile's maximum: of the running maximum and the tile's scores. -/
theorem mNext_apply (k : Fin k0_t1_loop.trips) (acc : FVec Ideal S8x512 .f32) (s : Fin 8) (r : Fin 512) :
    mNext X k acc (ix2 s r) = max (acc (ix2 s r))
      (Finset.univ.fold max (⊥ : EReal) fun a : Fin 64 => Point.xTile X k (ix2 ⟨a.val * 8 + s.val, by omega⟩ r)) := by
  unfold mNext Point.xTile
  generalize window X.vc (k0_off1 k) S1x512x64.size (k0_off1_inb k) = wc
  generalize window X.vs (k0_off2 k) S1x512x1.size (k0_off2_inb k) = ws
  generalize window X.lq (k0_off2 k) S1x512x1.size (k0_off2_inb k) = wq
  generalize window X.vid (k0_off2 k) S1x512x1.size (k0_off2_inb k) = wid
  pointwise [k0_pay15, k0_pay14, k0_pay13, k0_pay6, k0_pay7, k0_pay8]
  rw [bits_bot]

theorem Holds.m8 (h : Holds X A b) (s : Fin 8) (r : Fin 512) : ∀ n, m8 X n (ix2 s r) ≠ (⊤ : EReal)
  | 0 => by
    unfold Point.m8
    pointwise [k0_pay12]
    rw [bits_bot]; exact bot_ne_top
  | n + 1 => by
    unfold Point.m8
    split
    · rw [mNext_apply]
      refine (max_lt (lt_top_iff_ne_top.2 (Holds.m8 h s r n)) (lt_top_iff_ne_top.2 (fold_max_ne_top _ _ fun a => ?_))).ne
      rw [h.xTile]
      split
      · exact bot_ne_top
      · exact EReal.coe_ne_top _
    · exact Holds.m8 h s r n

/-- The maximum subtracted in the exponents. -/
abbrev top (X : Blocks Ideal) : FVec Ideal S1x512 .f32 := k0_pay16 (Point.xii X) (mAll X)

/-- The maximum is minus the logarithm of some positive number, in base-two units: the number that scales every weight. -/
theorem Holds.top_real (h : Holds X A b) (r : Fin 512) :
    ∃ c : ℝ, 0 < c ∧ top X (ix2 0 r) = ((-Real.log c * l2 : ℝ) : EReal) := by
  have e : top X (ix2 0 r) = max (Finset.univ.fold max (⊥ : EReal) fun s : Fin 8 => mAll X (ix2 s r)) (Point.xii X (ix2 0 r)) := by
    unfold Point.top
    generalize mAll X = M
    generalize Point.xii X = x
    pointwise [k0_pay16]
    rw [bits_bot]
  have ht : top X (ix2 0 r) ≠ ⊤ := by
    rw [e, h.xii]
    exact (max_lt (lt_top_iff_ne_top.2 (fold_max_ne_top _ _ fun s => h.m8 s r _)) (lt_top_iff_ne_top.2 (EReal.coe_ne_top _))).ne
  have hb : top X (ix2 0 r) ≠ ⊥ := by
    rw [e, h.xii]
    exact (lt_of_lt_of_le (EReal.bot_lt_coe _) (le_max_right _ _)).ne'
  refine ⟨Real.exp (-(top X (ix2 0 r)).toReal * Real.log 2), Real.exp_pos _, ?_⟩
  rw [Real.log_exp, ← EReal.coe_toReal ht hb]
  congr 1
  have : Real.log 2 ≠ 0 := (Real.log_pos (by norm_num)).ne'
  simp only [EReal.toReal_coe, l2]
  field_simp

/-! ## The exponentials and the denominator -/

/-- An exponential against the maximum. -/
theorem exp2_score (s : ℝ) {c : ℝ} (hc : 0 < c) :
    (FloatOps.exp2 (F := Ideal) (φ := .f32) (((s * l2 : ℝ) : EReal) - ((-Real.log c * l2 : ℝ) : EReal) : EReal) : EReal)
      = ((Real.exp s * c : ℝ) : EReal) := by
  rw [← EReal.coe_sub]
  show Ideal.exp2 _ = _
  rw [Ideal.exp2_coe]
  congr 1
  rw [show s * l2 - -Real.log c * l2 = (s + Real.log c) * (Real.log 2)⁻¹ by simp only [l2]; ring, two_rpow_div, Real.exp_add, Real.exp_log hc]

/-- An excluded item's exponential is zero. -/
theorem exp2_none (y : ℝ) : (FloatOps.exp2 (F := Ideal) (φ := .f32) ((⊥ : EReal) - (y : EReal) : EReal) : EReal) = ((0 : ℝ) : EReal) := by
  show Ideal.exp2 _ = _
  rw [EReal.bot_sub]
  exact Ideal.exp2_bot

variable {r : Fin 512} {c : ℝ}

theorem Holds.ex (h : Holds X A b) (hc : 0 < c) (hm : top X (ix2 0 r) = ((-Real.log c * l2 : ℝ) : EReal))
    (k : Fin k0_t1_loop.trips) (j : Fin 512) :
    (FloatOps.exp2 (F := Ideal) (φ := .f32) (Point.xTile X k (ix2 j r) - top X (ix2 0 r) : EReal) : EReal)
      = ((A.off (place b r) (place (blk1 k) j) * c : ℝ) : EReal) := by
  rw [h.xTile, hm]
  unfold Group.off
  by_cases e : A.id (place (blk1 k) j) = A.id (place b r)
  · rw [if_pos e, if_pos e, exp2_none, zero_mul]
  · rw [if_neg e, if_neg e, exp2_score _ hc]

theorem Holds.exTile (h : Holds X A b) (hc : 0 < c) (hm : top X (ix2 0 r) = ((-Real.log c * l2 : ℝ) : EReal))
    (k : Fin k0_t2_loop.trips) (j : Fin 512) :
    exTile X k (ix2 j r) = ((A.off (place b r) (place (blk1 (of2 k)) j) * c : ℝ) : EReal) := by
  rw [← h.ex hc hm]
  unfold Point.exTile
  generalize Point.xTile X (of2 k) = T
  pointwise [k0_pay19, k0_pay18]

theorem Holds.den8 (h : Holds X A b) (hc : 0 < c) (hm : top X (ix2 0 r) = ((-Real.log c * l2 : ℝ) : EReal)) (s : Fin 8) :
    denAll X (ix2 s r) = ((∑ k : Fin 8, ∑ a : Fin 64, A.off (place b r) (place k ⟨a.val * 8 + s.val, by omega⟩) * c : ℝ) : EReal) := by
  have h0 : Point.den8 X 0 (ix2 s r) = ((0 : ℝ) : EReal) := by
    unfold Point.den8
    pointwise [k0_pay17]
    exact EReal.coe_zero.symm
  have hs : ∀ k : Fin 8, Point.den8 X (k.val + 1) (ix2 s r) = Point.den8 X k.val (ix2 s r)
      + ((∑ a : Fin 64, A.off (place b r) (place k ⟨a.val * 8 + s.val, by omega⟩) * c : ℝ) : EReal) := by
    intro k
    have hk : k.val < k0_t2_loop.trips := lt_of_lt_of_eq k.isLt trips2.symm
    rw [coe_sum]
    rw [show Point.den8 X (k.val + 1) = k0_pay20 (Point.xii X) (mAll X) (Point.den8 X k.val) (Point.xTile X (of2 ⟨k.val, hk⟩)) from dif_pos hk]
    refine Eq.trans ?_ (congrArg _ (Finset.sum_congr rfl fun a _ => h.ex hc hm (of2 ⟨k.val, hk⟩) ⟨a.val * 8 + s.val, by omega⟩))
    unfold Point.top
    generalize Point.xTile X (of2 ⟨k.val, hk⟩) = T
    generalize Point.den8 X k.val = D
    pointwise [k0_pay20, k0_pay18]
  have := running_sum (N := 8) (fun n => Point.den8 X n (ix2 s r)) 0 _ h0 hs
  rw [zero_add] at this
  unfold Point.denAll
  rw [trips2]
  exact this

theorem Holds.exii (h : Holds X A b) (hc : 0 < c) (hm : top X (ix2 0 r) = ((-Real.log c * l2 : ℝ) : EReal)) :
    k0_pay21 (Point.xii X) (mAll X) (ix2 0 r) = ((A.own (place b r) * c : ℝ) : EReal) := by
  unfold Group.own
  rw [← exp2_score _ hc, ← h.xii, ← hm]
  unfold Point.top
  pointwise [k0_pay21]

theorem Holds.den (h : Holds X A b) (hc : 0 < c) (hm : top X (ix2 0 r) = ((-Real.log c * l2 : ℝ) : EReal)) :
    k0_pay22 (Point.xii X) (mAll X) (denAll X) (ix2 0 r) = ((A.den (place b r) * c : ℝ) : EReal) := by
  have e : k0_pay22 (Point.xii X) (mAll X) (denAll X) (ix2 0 r)
      = (∑ s : Fin 8, denAll X (ix2 s r) : EReal) + k0_pay21 (Point.xii X) (mAll X) (ix2 0 r) := by
    generalize denAll X = D
    pointwise [k0_pay22]
  rw [e, h.exii hc hm]
  simp only [h.den8 hc hm]
  rw [← coe_sum, ← EReal.coe_add]
  congr 1
  unfold Group.den
  rw [sum_place, add_mul, Finset.sum_comm]
  simp only [sum_lanes (fun r' => A.off (place b r) (place _ r')), Finset.sum_mul]

end Cert.KernelIdeal.Point

end
-- ==== Proof.Value.Grads.lean ====
/-
  One grid point over the reals, its last pass: the losses, the user gradients, and what the point adds to the
  item-gradient accumulator.
-/
module

public import proofs.«01_k».proof.Proof.Value.Scores

@[expose] public section

set_option maxRecDepth 16384

noncomputable section

namespace Cert.KernelIdeal.Point

open Idealize.ShloMosaic Idealize.SL.Sem Cert.KernelIdeal Cert.KernelIdeal.Gen Cert.Softmax
open Idealize.ShloMosaic.VecWindow (window put)

/-! ## Column windows of the two scratch arrays -/

theorem window_cols {α : Type} (x : S64x4096.Idx → α) {off : Fin 2 → ℕ} {n : Fin 8} (e : off = ![0, 512 * n.val])
    (inb : ∀ a, off a + S64x512.size a ≤ S64x4096.size a) (d : Fin 64) (r : Fin 512) :
    window x off S64x512.size inb (ix2 d r) = x (ix2 d (place n r)) := by
  subst e
  refine congrArg x (funext fun a => Fin.ext ?_)
  fin_cases a
  · show 0 + 1 * d.val = d.val; omega
  · show 512 * n.val + 1 * r.val = n.val * 512 + r.val; omega

theorem put_cols {α : Type} (x : S64x4096.Idx → α) {off : Fin 2 → ℕ} {n : Fin 8} (e : off = ![0, 512 * n.val])
    (w : S64x512.Idx → α) (d : Fin 64) (q : Fin 8) (r : Fin 512) :
    put x off S64x512.size w (ix2 d (place q r)) = if q = n then w (ix2 d r) else x (ix2 d (place q r)) := by
  subst e
  unfold put
  by_cases h : q = n
  · subst h
    have hin : ∀ a : Fin 2, (![0, 512 * q.val] : Fin 2 → ℕ) a ≤ ((ix2 d (place q r) : S64x4096.Idx) a).val
        ∧ ((ix2 d (place q r) : S64x4096.Idx) a).val < (![0, 512 * q.val] : Fin 2 → ℕ) a + S64x512.size a := by
      intro a
      fin_cases a
      · exact ⟨Nat.zero_le _, show d.val < 0 + 64 by omega⟩
      · exact ⟨show 512 * q.val ≤ q.val * 512 + r.val by omega, show q.val * 512 + r.val < 512 * q.val + 512 by omega⟩
    rw [if_pos rfl]
    refine (dif_pos hin).trans (congrArg w (funext fun a => Fin.ext ?_))
    fin_cases a
    · show d.val - 0 = d.val; omega
    · show q.val * 512 + r.val - 512 * q.val = r.val; omega
  · rw [if_neg h]
    refine dif_neg fun hin => h (Fin.ext ?_)
    have h1 : 512 * n.val ≤ q.val * 512 + r.val ∧ q.val * 512 + r.val < 512 * n.val + 512 := hin 1
    omega

/-! ## What the passes share -/

variable {X : Blocks Ideal} {A : Group} {b : Fin 8} {r : Fin 512} {c : ℝ}

/-- One over a positive real. -/
theorem one_div_coe {y : ℝ} (hy : 0 < y) : Ideal.div 1 (y : EReal) = ((1 / y : ℝ) : EReal) := by
  rw [Ideal.div_coe hy.ne', one_mul]

theorem Holds.rden (h : Holds X A b) (hc : 0 < c) (hm : top X (ix2 0 r) = ((-Real.log c * l2 : ℝ) : EReal)) :
    rden X (ix2 0 r) = ((1 / (A.den (place b r) * c) : ℝ) : EReal) := by
  rw [← one_div_coe (mul_pos (A.den_pos _) hc), ← h.den hc hm]
  unfold Point.rden
  generalize Point.xii X = x
  generalize mAll X = M
  generalize denAll X = D
  pointwise [k0_pay23]

theorem Holds.gii (h : Holds X A b) (r : Fin 512) : gii X (ix2 0 r) = (A.gap (place b r) : EReal) := by
  obtain ⟨c, hc, hm⟩ := h.top_real r
  have e : Point.gii X (ix2 0 r) = (k0_pay21 (Point.xii X) (mAll X) (ix2 0 r) * Point.rden X (ix2 0 r) - 1 : EReal) := by
    unfold Point.gii Point.rden
    generalize Point.xii X = x
    generalize mAll X = M
    generalize denAll X = D
    pointwise [k0_pay25]
  rw [e, h.exii hc hm, h.rden hc hm, ← EReal.coe_mul, ← EReal.coe_one, ← EReal.coe_sub]
  congr 1
  unfold Group.gap
  have := (A.den_pos (place b r)).ne'
  field_simp

/-- The loss of each of the point's users. -/
theorem Holds.loss (h : Holds X A b) (r : Fin 512) : loss X (ix3 0 0 r) = (A.loss (place b r) : EReal) := by
  obtain ⟨c, hc, hm⟩ := h.top_real r
  have e : Point.loss X (ix3 0 0 r) = ((top X (ix2 0 r) - Point.xii X (ix2 0 r)) * ((Real.log 2 : ℝ) : EReal)
      + Ideal.log (k0_pay22 (Point.xii X) (mAll X) (denAll X) (ix2 0 r)) : EReal) := by
    unfold Point.loss Point.top
    rw [← named_ln2]
    generalize Point.xii X = x
    generalize mAll X = M
    generalize denAll X = D
    pointwise [k0_pay24]
  have hd := A.den_pos (place b r)
  have hl : Real.log 2 ≠ 0 := (Real.log_pos (by norm_num)).ne'
  rw [e, h.den hc hm, hm, h.xii, Ideal.log_coe, if_neg (mul_pos hd hc).not_ge, ← EReal.coe_sub, ← EReal.coe_mul, ← EReal.coe_add]
  congr 1
  unfold Group.loss
  rw [Real.log_mul hd.ne' hc.ne']
  simp only [l2]
  field_simp
  ring

theorem Holds.ut (h : Holds X A b) (d : Fin 64) (r : Fin 512) : ut X (ix2 d r) = (A.u (place b r) d : EReal) := by
  unfold Group.u
  rw [EReal.coe_mul, ← h.uc, ← h.us]
  pointwise [k0_pay26, k0_pay6, k0_pay7]

/-- The scaled users' vectors. -/
theorem Holds.hi (h : Holds X A b) (hc : 0 < c) (hm : top X (ix2 0 r) = ((-Real.log c * l2 : ℝ) : EReal)) (d : Fin 64) :
    hi X (ix2 d r) = ((A.u (place b r) d / (A.den (place b r) * c) : ℝ) : EReal) := by
  rw [div_eq_mul_one_div, EReal.coe_mul, ← h.ut, ← h.rden hc hm]
  unfold Point.hi Point.ut Point.rden
  generalize Point.xii X = x
  generalize mAll X = M
  generalize denAll X = D
  pointwise [k0_pay28, k0_pay27]

/-- The leading part of a real number leaves nothing over. -/
theorem Holds.lo (h : Holds X A b) (r : Fin 512) (d : Fin 64) : lo X (ix2 d r) = ((0 : ℝ) : EReal) := by
  obtain ⟨c, hc, hm⟩ := h.top_real r
  have e : Point.lo X (ix2 d r) = (Point.hi X (ix2 d r) - Point.hi X (ix2 d r) : EReal) := by
    unfold Point.lo Point.hi
    generalize Point.xii X = x
    generalize mAll X = M
    generalize denAll X = D
    pointwise [k0_pay29, k0_pay28]
  rw [e, h.hi hc hm, ← EReal.coe_sub, sub_self]

/-! ## The user gradients -/

/-- A trip of the last pass as a block number. -/
theorem cols_trip (k : Fin k0_t3_loop.trips) : k0_off6 k = ![0, 512 * (blk1 (of2 (of3 k))).val] := k0_off6_eq k

theorem Holds.uAcc (h : Holds X A b) (hc : 0 < c) (hm : top X (ix2 0 r) = ((-Real.log c * l2 : ℝ) : EReal))
    {vt : Vec Ideal S64x4096 .bf16} (hv : ∀ d j, vt (ix2 d j) = (A.v j d : EReal)) (d : Fin 64) :
    uAcc X vt k0_t3_loop.trips (ix2 d r)
      = ((∑ k : Fin 8, ∑ j : Fin 512, A.v (place k j) d * (A.off (place b r) (place k j) * c) : ℝ) : EReal) := by
  have h0 : Point.uAcc X vt 0 (ix2 d r) = ((0 : ℝ) : EReal) := by
    unfold Point.uAcc
    pointwise [k0_pay30]
    exact EReal.coe_zero.symm
  have hs : ∀ k : Fin 8, Point.uAcc X vt (k.val + 1) (ix2 d r) = Point.uAcc X vt k.val (ix2 d r)
      + ((∑ j : Fin 512, A.v (place k j) d * (A.off (place b r) (place k j) * c) : ℝ) : EReal) := by
    intro k
    have hk : k.val < k0_t3_loop.trips := lt_of_lt_of_eq k.isLt trips3.symm
    rw [show Point.uAcc X vt (k.val + 1) = k0_pay2 (Point.uAcc X vt k.val) (Point.exTile X (of3 ⟨k.val, hk⟩))
      (window vt (k0_off6 ⟨k.val, hk⟩) S64x512.size (k0_off6_inb ⟨k.val, hk⟩)) from dif_pos hk]
    have ew := window_cols vt (cols_trip ⟨k.val, hk⟩) (k0_off6_inb ⟨k.val, hk⟩) d
    have ee := fun j => h.exTile hc hm (of3 ⟨k.val, hk⟩) j
    generalize window vt (k0_off6 ⟨k.val, hk⟩) S64x512.size (k0_off6_inb ⟨k.val, hk⟩) = w at ew ⊢
    generalize Point.exTile X (of3 ⟨k.val, hk⟩) = E at ee ⊢
    generalize Point.uAcc X vt k.val = U
    pointwise [k0_pay2]
    simp only [ew, ee, hv, ← EReal.coe_mul, ← coe_sum]
  have := running_sum (N := 8) (fun n => Point.uAcc X vt n (ix2 d r)) 0 _ h0 hs
  rw [zero_add] at this
  rw [trips3]
  exact this

/-- The user gradients the point stores. -/
theorem Holds.du (h : Holds X A b) {i : grid0.Coords} (hb : (i 1).val = b.val)
    {vt : Vec Ideal S64x4096 .bf16} (hv : ∀ d j, vt (ix2 d j) = (A.v j d : EReal)) (r : Fin 512) (d : Fin 64) :
    du X i vt (ix3 0 r d) = (A.du (place b r) d : EReal) := by
  obtain ⟨c, hc, hm⟩ := h.top_real r
  have ew := window_cols vt (n := b) (by rw [k0_off7_eq, hb]) (k0_off7_inb i) d r
  have eu := h.uAcc hc hm hv d
  have er := h.rden hc hm
  have eg := h.gii r
  unfold Point.du
  generalize window vt (k0_off7 i) S64x512.size (k0_off7_inb i) = w at ew ⊢
  generalize Point.uAcc X vt k0_t3_loop.trips = U at eu ⊢
  generalize Point.rden X = R at er ⊢
  generalize Point.gii X = G at eg ⊢
  pointwise [k0_pay3]
  simp only [ew, eu, er, eg, hv, bits_twenty, ← EReal.coe_mul, ← EReal.coe_add]
  congr 1
  unfold Group.du
  rw [sum_place]
  have := (A.den_pos (place b r)).ne'
  congr 2
  simp only [← mul_assoc, ← Finset.sum_mul]
  field_simp

/-! ## The item-gradient accumulator -/

/-- What the point's users add to an item's gradient in the passes over the tiles. -/
def tiles (A : Group) (b : Fin 8) (j : Fin 4096) (d : Fin 64) : ℝ :=
  ∑ r, A.u (place b r) d / A.den (place b r) * A.off (place b r) j

/-- One more tile, on the tile's own columns. -/
theorem Holds.dTile (h : Holds X A b) (k : Fin k0_t3_loop.trips) (D : FVec Ideal S64x512 .f32) (d : Fin 64) (j : Fin 512) :
    k0_pay1 (Point.hi X) (Point.lo X) (Point.exTile X (of3 k)) D (ix2 d j)
      = (D (ix2 d j) + (tiles A b (place (blk1 (of2 (of3 k))) j) d : ℝ) : EReal) := by
  choose c hc hm using h.top_real
  have eh := fun r => h.hi (hc r) (hm r) d
  have el := fun r => h.lo r d
  have ee := fun r => h.exTile (hc r) (hm r) (of3 k) j
  generalize Point.hi X = H at eh ⊢
  generalize Point.lo X = L at el ⊢
  generalize Point.exTile X (of3 k) = E at ee ⊢
  pointwise [k0_pay1]
  simp only [eh, el, ee, ← EReal.coe_mul, ← coe_sum, ← EReal.coe_add]
  congr 2
  unfold tiles
  rw [← Finset.sum_add_distrib]
  refine Finset.sum_congr rfl fun r _ => ?_
  have := (A.den_pos (place b r)).ne'
  have := (hc r).ne'
  field_simp
  ring

theorem Holds.dAcc (h : Holds X A b) {D : Vec Ideal S64x4096 .f32} {f : Fin 64 → Fin 4096 → ℝ}
    (hD : ∀ d j, D (ix2 d j) = (f d j : EReal)) (d : Fin 64) (q : Fin 8) (j : Fin 512) :
    ∀ n ≤ 8, Point.dAcc X D n (ix2 d (place q j))
      = ((f d (place q j) + if q.val < n then tiles A b (place q j) d else 0 : ℝ) : EReal)
  | 0, _ => by simpa [Point.dAcc] using hD d (place q j)
  | n + 1, hn => by
    have hk : n < k0_t3_loop.trips := lt_of_lt_of_eq hn trips3.symm
    rw [show Point.dAcc X D (n + 1) = dNext X ⟨n, hk⟩ (Point.dAcc X D n) from dif_pos hk]
    unfold dNext
    rw [put_cols _ (cols_trip ⟨n, hk⟩), h.dTile, window_cols _ (cols_trip ⟨n, hk⟩)]
    by_cases e : q = blk1 (of2 (of3 ⟨n, hk⟩))
    · have e' : q.val = n := congrArg Fin.val e
      rw [if_pos e, ← e, Holds.dAcc h hD d q j n (Nat.le_of_succ_le hn), if_neg (by omega), if_pos (by omega), add_zero,
        ← EReal.coe_add]
    · have e' : q.val ≠ n := fun h => e (Fin.ext h)
      rw [if_neg e, Holds.dAcc h hD d q j n (Nat.le_of_succ_le hn)]
      refine congrArg (fun x : ℝ => (x : EReal)) (congrArg _ (if_congr ?_ rfl rfl))
      omega

/-- The accumulator the point leaves: what it held, and what each of the point's users adds. -/
theorem Holds.dAfter (h : Holds X A b) {i : grid0.Coords} (hb : (i 1).val = b.val) {D : Vec Ideal S64x4096 .f32}
    {f : Fin 64 → Fin 4096 → ℝ} (hD : ∀ d j, D (ix2 d j) = (f d j : EReal)) (d : Fin 64) (j : Fin 4096) :
    dAfter X i D (ix2 d j) = ((f d j + ∑ r, A.part j d (place b r) : ℝ) : EReal) := by
  obtain ⟨q, j, rfl⟩ : ∃ q j', j = place q j' :=
    ⟨⟨j.val / 512, by omega⟩, ⟨j.val % 512, by omega⟩, Fin.ext (by simp only [place]; omega)⟩
  have e7 : k0_off7 i = ![0, 512 * b.val] := by rw [k0_off7_eq, hb]
  have hacc := fun q j => h.dAcc hD d q j 8 le_rfl
  have ew := window_cols (Point.dAcc X D k0_t3_loop.trips) e7 (k0_off7_inb i) d j
  unfold Point.dAfter
  rw [put_cols _ e7]
  have eg := h.gii j
  have eu := h.ut d j
  rw [trips3] at ew ⊢
  generalize window (Point.dAcc X D 8) (k0_off7 i) S64x512.size (k0_off7_inb i) = w at ew ⊢
  generalize Point.gii X = G at eg ⊢
  generalize Point.ut X = U at eu ⊢
  have ep : k0_pay4 G U w (ix2 d j) = (w (ix2 d j) + G (ix2 0 j) * U (ix2 d j) : EReal) := by pointwise [k0_pay4]
  rw [ep, ew, eg, eu, hacc, hacc]
  have hsum : ∑ r, A.part (place q j) d (place b r)
      = tiles A b (place q j) d + if q = b then A.gap (place b j) * A.u (place b j) d else 0 := by
    unfold Group.part tiles
    rw [Finset.sum_add_distrib]
    congr 1
    simp only [place_inj]
    by_cases e : b = q
    · simp [e]
    · simp [e, Ne.symm e]
  rw [hsum, if_pos q.isLt, if_pos b.isLt]
  by_cases e : q = b
  · subst e
    rw [if_pos rfl, if_pos rfl, ← EReal.coe_mul, ← EReal.coe_add, add_assoc]
  · rw [if_neg e, if_neg e, add_zero]

/-- The transposed item vectors a group's first point computes. -/
theorem Holds.vt (h : Holds X A b) (d : Fin 64) (j : Fin 4096) : k0_pay9 X.vc X.vs (ix2 d j) = (A.v j d : EReal) := by
  unfold Group.v
  rw [EReal.coe_mul, ← h.vc, ← h.vs]
  pointwise [k0_pay9]

/-- The accumulator a group starts from. -/
theorem zeros (d : Fin 64) (j : Fin 4096) : k0_pay10 (F := Ideal) (ix2 d j) = ((0 : ℝ) : EReal) := by
  pointwise [k0_pay10]
  exact EReal.coe_zero.symm

/-- The item gradients from the accumulator. -/
theorem flush (D : Vec Ideal S64x4096 .f32) (j : Fin 4096) (d : Fin 64) :
    k0_pay5 D (ix3 0 j d) = (D (ix2 d j) * ((20 : ℝ) : EReal) : EReal) := by
  pointwise [k0_pay5]
  rw [bits_twenty]

end Cert.KernelIdeal.Point

end
-- ==== Proof.Value.Blocks.lean ====
/-
  The blocks each grid point is handed are the argument arrays' own entries: point `t` works on group `t / 8` and on the
  group's row block `t % 8`.
-/
module

public import proofs.«01_k».proof.Proof.Value.Args
public import proofs.«01_k».proof.Proof.Value.Grads
public import proofs.«01_k».proof.Proof.Ideal.Frame

@[expose] public section

set_option maxRecDepth 16384

noncomputable section

namespace Cert.KernelIdeal.Point

open Idealize.ShloMosaic Idealize.ShloMosaic.TcCoe Idealize.SL.Sem Cert.KernelIdeal Cert.KernelIdeal.Gen Cert.Softmax

variable (m : (ℓ : Loc nD τ sig) → Buf (Elt Ideal) ℓ)

/-- The argument arrays of core `c`. -/
def args (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- Every window's block at every point. -/
theorem idx : ∀ t : Fin cfg0.N,
    win0_0.index t = ![t.val / 8, t.val % 8, 0] ∧ win0_1.index t = ![t.val / 8, 0, t.val % 8] ∧ win0_2.index t = ![t.val / 8, 0, t.val % 8]
    ∧ win0_3.index t = ![t.val / 8, 0, 0] ∧ win0_4.index t = ![t.val / 8, 0, 0] ∧ win0_5.index t = ![t.val / 8, 0, 0]
    ∧ win0_6.index t = ![t.val / 8, 0, 0] ∧ win0_7.index t = ![t.val / 8, t.val % 8, 0] ∧ win0_8.index t = ![t.val / 8, 0, t.val % 8]
    ∧ win0_9.index t = ![t.val / 8, 0, t.val % 8] ∧ win0_10.index t = ![t.val / 8, 0, t.val % 8]
    ∧ win0_11.index t = ![t.val / 8, t.val % 8, 0] ∧ win0_12.index t = ![t.val / 8, 0, 0] :=
  (by decide +kernel : ∀ t : Fin grid0.N, _)

/-- A point's group. -/
def gOf (t : Fin cfg0.N) : Fin 8 := ⟨t.val / 8, by have := t.isLt; have : cfg0.N = 64 := N_0; omega⟩

/-- A point's row block. -/
def bOf (t : Fin cfg0.N) : Fin 8 := ⟨t.val % 8, by omega⟩

variable (c : Dev nD) (t : Fin cfg0.N)

theorem blk_uc (r : Fin 512) (d : Fin 64) : (blks m c t).uc (ix3 0 r d) = (args m c).uc (ix3 (gOf t) (place (bOf t) r) d) := by
  show (iblk m c 0 t) (ix3 0 r d) = _
  unfold args gOf bOf place
  blk_point [iblk, V, idx t]

theorem blk_us (r : Fin 512) : (blks m c t).us (ix3 0 0 r) = (args m c).us (ix2 (gOf t) (place (bOf t) r)) := by
  show (iblk m c 1 t) (ix3 0 0 r) = _
  unfold args gOf bOf place
  blk_point [iblk, V, idx t]

theorem blk_uid (r : Fin 512) : (blks m c t).uid (ix3 0 0 r) = (args m c).id (ix2 (gOf t) (place (bOf t) r)) := by
  show (iblk m c 2 t) (ix3 0 0 r) = _
  unfold args gOf bOf place
  blk_point [iblk, V, idx t]

theorem blk_vc (j : Fin 4096) (d : Fin 64) : (blks m c t).vc (ix3 0 j d) = (args m c).vc (ix3 (gOf t) j d) := by
  show (iblk m c 3 t) (ix3 0 j d) = _
  unfold args gOf
  blk_point [iblk, V, idx t]

theorem blk_vs (j : Fin 4096) : (blks m c t).vs (ix3 0 j 0) = (args m c).vs (ix2 (gOf t) j) := by
  show (iblk m c 4 t) (ix3 0 j 0) = _
  unfold args gOf
  blk_point [iblk, V, idx t]

theorem blk_lq (j : Fin 4096) : (blks m c t).lq (ix3 0 j 0) = (args m c).lq (ix2 (gOf t) j) := by
  show (iblk m c 5 t) (ix3 0 j 0) = _
  unfold args gOf
  blk_point [iblk, V, idx t]

theorem blk_vid (j : Fin 4096) : (blks m c t).vid (ix3 0 j 0) = (args m c).id (ix2 (gOf t) j) := by
  show (iblk m c 6 t) (ix3 0 j 0) = _
  unfold args gOf
  blk_point [iblk, V, idx t]

theorem blk_vcd (r : Fin 512) (d : Fin 64) : (blks m c t).vcd (ix3 0 r d) = (args m c).vc (ix3 (gOf t) (place (bOf t) r) d) := by
  show (iblk m c 7 t) (ix3 0 r d) = _
  unfold args gOf bOf place
  blk_point [iblk, V, idx t]

theorem blk_vsd (r : Fin 512) : (blks m c t).vsd (ix3 0 0 r) = (args m c).vs (ix2 (gOf t) (place (bOf t) r)) := by
  show (iblk m c 8 t) (ix3 0 0 r) = _
  unfold args gOf bOf place
  blk_point [iblk, V, idx t]

theorem blk_lqd (r : Fin 512) : (blks m c t).lqd (ix3 0 0 r) = (args m c).lq (ix2 (gOf t) (place (bOf t) r)) := by
  show (iblk m c 9 t) (ix3 0 0 r) = _
  unfold args gOf bOf place
  blk_point [iblk, V, idx t]

/-- The blocks of a point hold the real data of its group. -/
theorem holds (h : (args m c).Real) : Holds (blks m c t) ((args m c).group (gOf t)) (bOf t) where
  uc r d := (blk_uc m c t r d).trans (h.uc.coe _)
  us r := (blk_us m c t r).trans (h.us.coe _)
  uid r := blk_uid m c t r
  vc j d := (blk_vc m c t j d).trans (h.vc.coe _)
  vs j := (blk_vs m c t j).trans (h.vs.coe _)
  lq j := (blk_lq m c t j).trans (h.lq.coe _)
  vid j := blk_vid m c t j
  vcd r d := (blk_vcd m c t r d).trans (h.vc.coe _)
  vsd r := (blk_vsd m c t r).trans (h.vs.coe _)
  lqd r := (blk_lqd m c t r).trans (h.lq.coe _)

end Cert.KernelIdeal.Point

end
-- ==== Proof.Value.Arrays.lean ====
/-
  The whole launch over the reals: what a group carries from row block to row block, and the three result arrays.
-/
module

public import proofs.«01_k».proof.Proof.Value.Blocks

@[expose] public section

set_option maxRecDepth 16384

noncomputable section

namespace Cert.KernelIdeal.Point

open Idealize.ShloMosaic Idealize.ShloMosaic.TcCoe Idealize.SL.Sem Cert.KernelIdeal Cert.KernelIdeal.Gen Cert.Softmax
open Idealize.ShloMosaic.Pipeline (Dat)

variable (m : (ℓ : Loc nD τ sig) → Buf (Elt Ideal) ℓ) (c : Dev nD)

/-- A point's second coordinate is its row block. -/
theorem coord_block (t : Fin cfg0.N) : (grid0.coords t 1).val = (bOf t).val := by
  rw [show (grid0.coords t 1).val = t.val / 1 % 8 from Pipeline.Grid.coords_val t 1 (by decide) rfl, Nat.div_one]; rfl

/-- Two points of one group. -/
theorem gOf_succ {n : ℕ} (h : n + 1 < cfg0.N) (hn : (n + 1) % 8 ≠ 0) : gOf ⟨n + 1, h⟩ = gOf ⟨n, Nat.lt_of_succ_lt h⟩ :=
  Fin.ext (show (n + 1) / 8 = n / 8 by omega)

/-- After every point the carried vectors are its group's items. -/
theorem vtAt_real (hr : (args m c).Real) : ∀ (n : ℕ) (h : n < cfg0.N) (d : Fin 64) (j : Fin 4096),
    vtAt m c (n + 1) (ix2 d j) = (((args m c).group (gOf ⟨n, h⟩)).v j d : EReal) := by
  intro n
  induction n with
  | zero =>
    intro h d j
    rw [vtAt_succ m c ⟨0, h⟩, vtNow, if_pos ((first_iff ⟨0, h⟩).2 rfl), (holds m c ⟨0, h⟩ hr).vt]
  | succ n ih =>
    intro h d j
    rw [vtAt_succ m c ⟨n + 1, h⟩, vtNow]
    by_cases e : (n + 1) % 8 = 0
    · rw [if_pos ((first_iff ⟨n + 1, h⟩).2 e), (holds m c ⟨n + 1, h⟩ hr).vt]
    · rw [if_neg fun hf => e ((first_iff ⟨n + 1, h⟩).1 hf), gOf_succ h e]
      exact ih _ d j

/-- What the users of row block `b` add to an item's gradient (nothing, past the last block). -/
def added (A : Group) (j : Fin 4096) (d : Fin 64) (b : ℕ) : ℝ := if h : b < 8 then ∑ r, A.part j d (place ⟨b, h⟩ r) else 0

/-- After every point the accumulator holds what the group's users up to its row block add. -/
theorem dAt_real (hr : (args m c).Real) : ∀ (n : ℕ) (h : n < cfg0.N) (d : Fin 64) (j : Fin 4096),
    dAt m c (n + 1) (ix2 d j)
      = ((∑ b ∈ Finset.range (n % 8 + 1), added ((args m c).group (gOf ⟨n, h⟩)) j d b : ℝ) : EReal) := by
  have own : ∀ (t : Fin cfg0.N) (j : Fin 4096) (d : Fin 64),
      ∑ r, ((args m c).group (gOf t)).part j d (place (bOf t) r) = added ((args m c).group (gOf t)) j d (t.val % 8) :=
    fun t j d => by unfold added; rw [dif_pos (Nat.mod_lt _ (by decide))]; rfl
  have first : ∀ (t : Fin cfg0.N), t.val % 8 = 0 → ∀ (D : Vec Ideal S64x4096 .f32) (d : Fin 64) (j : Fin 4096),
      dAfter (blks m c t) (grid0.coords t) (dNow (grid0.coords t) D) (ix2 d j)
        = ((∑ b ∈ Finset.range (t.val % 8 + 1), added ((args m c).group (gOf t)) j d b : ℝ) : EReal) := by
    intro t e D d j
    rw [dNow, if_pos ((first_iff t).2 e), (holds m c t hr).dAfter (coord_block t) (f := fun _ _ => 0) zeros, own, e, zero_add,
      zero_add, Finset.sum_range_one]
  intro n
  induction n with
  | zero =>
    intro h d j
    rw [dAt_succ m c ⟨0, h⟩]
    exact first ⟨0, h⟩ rfl _ d j
  | succ n ih =>
    intro h d j
    rw [dAt_succ m c ⟨n + 1, h⟩]
    by_cases e : (n + 1) % 8 = 0
    · exact first ⟨n + 1, h⟩ e _ d j
    · rw [dNow, if_neg fun hf => e ((first_iff ⟨n + 1, h⟩).1 hf),
        (holds m c ⟨n + 1, h⟩ hr).dAfter (coord_block ⟨n + 1, h⟩) (ih (Nat.lt_of_succ_lt h)), own, gOf_succ h e,
        show (n + 1) % 8 = n % 8 + 1 by omega, Finset.sum_range_succ _ (n % 8 + 1)]

/-- All of a group's users together. -/
theorem added_all (A : Group) (j : Fin 4096) (d : Fin 64) : ∑ b ∈ Finset.range 8, added A j d b = ∑ i, A.part j d i := by
  rw [Finset.sum_range, sum_place]
  exact Finset.sum_congr rfl fun b _ => dif_pos b.isLt

/-! ## The result arrays -/

/-- The losses of every group. -/
def lossAll (x : Args) : S8x1x4096.Idx → EReal := fun i => ((x.group (i 0)).loss (i 2) : EReal)

/-- The user gradients of every group. -/
def duAll (x : Args) : S8x4096x64.Idx → EReal := fun i => ((x.group (i 0)).du (i 1) (i 2) : EReal)

/-- The item gradients of every group. -/
def dvAll (x : Args) : S8x4096x64.Idx → EReal := fun i => ((x.group (i 0)).dv (i 1) (i 2) : EReal)

/-- Where a point's losses stand in their array. -/
theorem emb_loss (t : Fin cfg0.N) (r : Fin 512) :
    ((win0_10.blk t).view.emb (ix3 (0 : Fin 1) (0 : Fin 1) r) : S8x1x4096.Idx) = ix3 (gOf t) 0 (place (bOf t) r) := by
  unfold gOf bOf place
  blk_ext [idx t]

/-- Where a point's user gradients stand in their array. -/
theorem emb_du (t : Fin cfg0.N) (r : Fin 512) (d : Fin 64) :
    ((win0_11.blk t).view.emb (ix3 (0 : Fin 1) r d) : S8x4096x64.Idx) = ix3 (gOf t) (place (bOf t) r) d := by
  unfold gOf bOf place
  blk_ext [idx t]

/-- Where a group's item gradients stand in their array. -/
theorem emb_dv (t : Fin cfg0.N) (j : Fin 4096) (d : Fin 64) :
    ((win0_12.blk t).view.emb (ix3 (0 : Fin 1) j d) : S8x4096x64.Idx) = ix3 (gOf t) j d := by
  unfold gOf
  blk_ext [idx t]

/-- An index of a block with one outer row. -/
theorem ix_row {a b : ℕ} (y : (⟨3, ![1, a, b]⟩ : Shape).Idx) : ∃ (i : Fin a) (j : Fin b), y = ix3 (0 : Fin 1) i j :=
  ⟨y 1, y 2, funext fun x => by
    fin_cases x
    · exact Subsingleton.elim (α := Fin 1) _ _
    · rfl
    · rfl⟩

theorem final_loss (hr : (args m c).Real) : (dats m 0 c).arrAt 10 (cfgs 0).N = lossAll (args m c) := by
  refine (dats m 0 c).arrAt_eq_of_covers 10 _ (by decide +kernel) fun t _ y => ?_
  blk_simp
  rw [after0_10]
  obtain ⟨z, r, rfl⟩ := ix_row (a := 1) (b := 512) y
  obtain rfl : z = 0 := Subsingleton.elim _ _
  exact ((holds m c t hr).loss r).trans (congrArg (lossAll (args m c)) (emb_loss t r)).symm

theorem final_du (hr : (args m c).Real) : (dats m 0 c).arrAt 11 (cfgs 0).N = duAll (args m c) := by
  refine (dats m 0 c).arrAt_eq_of_covers 11 _ (by decide +kernel) fun t _ y => ?_
  blk_simp
  rw [after0_11]
  obtain ⟨r, d, rfl⟩ := ix_row (a := 512) (b := 64) y
  exact ((holds m c t hr).du (coord_block t) (vtAt_real m c hr t.val t.isLt) r d).trans (congrArg (duAll (args m c)) (emb_du t r d)).symm

theorem final_dv (hr : (args m c).Real) : (dats m 0 c).arrAt 12 (cfgs 0).N = dvAll (args m c) := by
  refine (dats m 0 c).arrAt_eq_of_covers 12 _ (by decide +kernel) fun t hf y => ?_
  blk_simp
  rw [after0_12]
  obtain ⟨j, d, rfl⟩ := ix_row (a := 4096) (b := 64) y
  have h7 : t.val % 8 = 7 := (flush0_12 t).1 hf
  have e : k0_pay5 (dAt m c (t.val + 1)) (ix3 0 j d) = (((args m c).group (gOf t)).dv j d : EReal) := by
    rw [flush, dAt_real m c hr t.val t.isLt, h7, added_all, ← EReal.coe_mul]
    rfl
  exact e.trans (congrArg (dvAll (args m c)) (emb_dv t j d)).symm

end Cert.KernelIdeal.Point

end
-- ==== Proof.Value.Reference.lean ====
/-
  The reference over the reals: each of its stages at an index, down to its three results.
-/
module

public import proofs.«01_k».proof.Proof.Value.Consts
public import proofs.«01_k».proof.Proof.Value.Args
public import proofs.«01_k».proof.Proof.Gen.ReferenceIdeal.Read

@[expose] public section

set_option maxRecDepth 16384

noncomputable section

namespace Cert.ReferenceIdeal.Read

open Idealize.ShloMosaic Idealize.SL.Sem Cert.Softmax

variable {x : Args} (h : x.Real) (g : Fin 8)
include h

theorem users (i : Fin 4096) (d : Fin 64) : val_main_v2 (F := Ideal) x.uc x.us (ix3 g i d) = ((x.group g).u i d : EReal) := by
  refine Eq.trans (b := (x.uc (ix3 g i d) * x.us (ix2 g i) : EReal)) ?_ ?_
  · pointwise [val_main_v2, val_main_v1, val_main_v0]
  · rw [h.uc.coe, h.us.coe, ← EReal.coe_mul]; rfl

theorem items (j : Fin 4096) (d : Fin 64) : val_main_v5 (F := Ideal) x.vc x.vs (ix3 g j d) = ((x.group g).v j d : EReal) := by
  refine Eq.trans (b := (x.vc (ix3 g j d) * x.vs (ix2 g j) : EReal)) ?_ ?_
  · pointwise [val_main_v5, val_main_v4, val_main_v3]
  · rw [h.vc.coe, h.vs.coe, ← EReal.coe_mul]; rfl

theorem scores (i j : Fin 4096) :
    val_main_v11 (F := Ideal) x.uc x.us x.vc x.vs x.lq (ix3 g i j) = ((x.group g).score i j : EReal) := by
  pointwise [val_main_v11, val_main_v8, val_main_v6, val_main_v7, val_main_cst, val_main_v10, val_main_v9]
  simp only [users h, items h, bits_twenty, ← EReal.coe_mul, ← coe_sum]
  rw [h.lq.coe, ← EReal.coe_sub]; rfl

theorem masked (i j : Fin 4096) :
    val_main_v23 (F := Ideal) x.uc x.us x.vc x.vs x.lq x.id (ix3 g i j)
      = if (x.group g).id i = (x.group g).id j ∧ i ≠ j then (⊥ : EReal) else ((x.group g).score i j : EReal) := by
  pointwise [val_main_v23, val_main_v21, val_main_v19, val_main_v20, val_main_v14, val_main_v12, val_main_v13, val_main_v17,
    val_main_v18, val_main_v15, val_main_v16, val_main_v22, val_main_cst_0]
  rw [select_words_ne, bits_bot, scores h]
  exact if_congr (and_congr_right fun _ => not_congr (item_words i j)) rfl rfl

/-- The maximum subtracted in the exponents is a real number. -/
theorem top_real (i : Fin 4096) :
    ∃ μ : ℝ, val_main_v25 (F := Ideal) x.uc x.us x.vc x.vs x.lq x.id (ix3 g i 0) = (μ : EReal) := by
  have e : val_main_v25 (F := Ideal) x.uc x.us x.vc x.vs x.lq x.id (ix3 g i 0)
      = (Finset.univ.fold max (⊥ : EReal) fun j => val_main_v23 (F := Ideal) x.uc x.us x.vc x.vs x.lq x.id (ix3 g i j)) := by
    rw [← bits_bot]
    pointwise [val_main_v25, val_main_v24, val_main_cst_1]
  refine ⟨_, (EReal.coe_toReal (x := val_main_v25 (F := Ideal) x.uc x.us x.vc x.vs x.lq x.id (ix3 g i 0)) ?_ ?_).symm⟩
  · rw [e]
    refine fold_max_ne_top _ _ fun j => ?_
    rw [masked h]
    split
    · exact bot_ne_top
    · exact EReal.coe_ne_top _
  · rw [e]
    refine (lt_of_lt_of_le (EReal.bot_lt_coe ((x.group g).score i i)) ?_).ne'
    refine (Finset.le_fold_max _).2 (Or.inr ⟨i, Finset.mem_univ _, ?_⟩)
    rw [masked h, if_neg fun hh => hh.2 rfl]

/-- The exponentials, against a maximum `μ`. -/
theorem exps {i : Fin 4096} {μ : ℝ} (hμ : val_main_v25 (F := Ideal) x.uc x.us x.vc x.vs x.lq x.id (ix3 g i 0) = (μ : EReal))
    (j : Fin 4096) :
    val_main_v28 (F := Ideal) x.uc x.us x.vc x.vs x.lq x.id (ix3 g i j) = (((x.group g).all i j * Real.exp (-μ) : ℝ) : EReal) := by
  pointwise [val_main_v28, val_main_v27, val_main_v26]
  rw [masked h, hμ]
  unfold Group.all
  by_cases e : (x.group g).id i = (x.group g).id j ∧ i ≠ j
  · rw [if_pos e, if_pos e, EReal.bot_sub, zero_mul]; rfl
  · rw [if_neg e, if_neg e, ← EReal.coe_sub, Ideal.exp_coe, sub_eq_add_neg, Real.exp_add]

theorem dens {i : Fin 4096} {μ : ℝ} (hμ : val_main_v25 (F := Ideal) x.uc x.us x.vc x.vs x.lq x.id (ix3 g i 0) = (μ : EReal)) :
    val_main_v30 (F := Ideal) x.uc x.us x.vc x.vs x.lq x.id (ix3 g i 0) = (((x.group g).den i * Real.exp (-μ) : ℝ) : EReal) := by
  pointwise [val_main_v30, val_main_v29, val_main_cst_2]
  simp only [exps h g hμ, ← coe_sum, ← Finset.sum_mul, Group.sum_all]

theorem lses (i : Fin 4096) :
    val_main_v32 (F := Ideal) x.uc x.us x.vc x.vs x.lq x.id (ix3 g i 0) = ((Real.log ((x.group g).den i) : ℝ) : EReal) := by
  obtain ⟨μ, hμ⟩ := top_real h g i
  have hd := (x.group g).den_pos i
  have e : ∀ a b : EReal, FloatOps.addf (F := Ideal) (φ := .f32) a (FloatOps.hostUnary .log (b : Ideal .f32)) = a + Ideal.log b :=
    fun _ _ => rfl
  rw [val_main_v32_apply, val_main_v31_apply, hμ, dens h g hμ, e, Ideal.log_coe, if_neg (mul_pos hd (Real.exp_pos _)).not_ge, ← EReal.coe_add,
    Real.log_mul hd.ne' (Real.exp_pos _).ne', Real.log_exp, add_neg_cancel_comm_assoc]

theorem positives (i : Fin 4096) :
    val_main_v36 (F := Ideal) x.uc x.us x.vc x.vs x.lq (ix3 g i 0) = ((x.group g).score i i : EReal) := by
  pointwise [val_main_v36, val_main_v35, val_main_v34, val_main_v33, val_main_cst_3, val_main_cst_4, val_main_v14, val_main_v12,
    val_main_v13]
  simp only [select_words, item_words, scores h, Finset.sum_ite_eq, Finset.mem_univ, if_true]

theorem losses (i : Fin 4096) :
    val_main_v37 (F := Ideal) x.uc x.us x.vc x.vs x.lq x.id (ix3 g i 0) = ((x.group g).loss i : EReal) := by
  rw [val_main_v37_apply, lses h, positives h]
  exact (EReal.coe_sub _ _).symm

/-- The probabilities less the one-hot rows, by division. -/
theorem gaps_div (i j : Fin 4096) :
    val_main_v41 (F := Ideal) x.uc x.us x.vc x.vs x.lq x.id (ix3 g i j)
      = (((x.group g).all i j / (x.group g).den i - if i = j then 1 else 0 : ℝ) : EReal) := by
  obtain ⟨μ, hμ⟩ := top_real h g i
  have hd := ((x.group g).den_pos i).ne'
  have he := (Real.exp_pos (-μ)).ne'
  pointwise [val_main_v41, val_main_v40, val_main_v39, val_main_v38, val_main_v14, val_main_v12, val_main_v13]
  rw [exps h g hμ, dens h g hμ, div_coe_coe _ (mul_ne_zero hd he), indicator, ← EReal.coe_sub, mul_div_mul_right _ _ he]
  simp only [item_words]

/-- The probabilities less the one-hot rows, by the logarithm of the denominator. -/
theorem gaps_log (i j : Fin 4096) :
    val_main_v48 (F := Ideal) x.uc x.us x.vc x.vs x.lq x.id (ix3 g i j)
      = (((x.group g).all i j / (x.group g).den i - if i = j then 1 else 0 : ℝ) : EReal) := by
  have hd := (x.group g).den_pos i
  pointwise [val_main_v48, val_main_v47, val_main_v46, val_main_v45, val_main_v38, val_main_v14, val_main_v12, val_main_v13]
  rw [masked h, lses h, indicator]
  simp only [item_words]
  unfold Group.all
  by_cases e : (x.group g).id i = (x.group g).id j ∧ i ≠ j
  · rw [if_pos e, if_pos e, EReal.bot_sub, zero_div, EReal.coe_sub, EReal.coe_zero]; rfl
  · rw [if_neg e, if_neg e, ← EReal.coe_sub, Ideal.exp_coe, ← EReal.coe_sub, Real.exp_sub, Real.exp_log hd]

theorem user_grads (i : Fin 4096) (d : Fin 64) :
    val_main_v53 (F := Ideal) x.uc x.us x.vc x.vs x.lq x.id (ix3 g i d) = ((x.group g).du i d : EReal) := by
  pointwise [val_main_v53, val_main_v44, val_main_v42, val_main_v43, val_main_cst_5]
  simp only [gaps_div h, items h, bits_twenty, ← EReal.coe_mul, ← coe_sum, Group.du_eq]

theorem item_grads (j : Fin 4096) (d : Fin 64) :
    val_main_v54 (F := Ideal) x.uc x.us x.vc x.vs x.lq x.id (ix3 g j d) = ((x.group g).dv j d : EReal) := by
  pointwise [val_main_v54, val_main_v51, val_main_v49, val_main_v50, val_main_cst_6]
  simp only [gaps_log h, users h, bits_twenty, ← EReal.coe_mul, ← coe_sum, Group.dv_eq]

theorem loss_row (i : Fin 4096) :
    val_main_v52 (F := Ideal) x.uc x.us x.vc x.vs x.lq x.id (ix3 g 0 i) = ((x.group g).loss i : EReal) := by
  pointwise [val_main_v52]
  exact losses h g i

end Cert.ReferenceIdeal.Read

end
-- ==== Proof.Value.Finite.lean ====
/-
  What the precondition says: every entry of the five float arrays is a real number.
-/
module

public import proofs.«01_k».proof.Proof.Value.Consts
public import proofs.«01_k».proof.Proof.Value.Args
public import proofs.«01_k».proof.Proof.Gen.Pre_finite_inputs
public import Idealize.ShloMosaic.Lib.ReduceAll

@[expose] public section

set_option maxRecDepth 16384

noncomputable section

namespace Cert.Softmax

open Idealize.ShloMosaic Idealize.SL.Sem

/-- A number whose absolute value is below the top is real. -/
theorem real_of_abs {v : EReal} (h : max v (-v) < ⊤) : v ≠ ⊤ ∧ v ≠ ⊥ := by
  constructor
  · rintro rfl; exact absurd h (by simp)
  · rintro rfl; exact absurd h (by simp)

/-- An array whose absolute values are all marked below infinity holds real numbers. -/
theorem reals_of_all {s t u : Shape} {axes : List (Fin s.rank)} [Subsingleton t.Idx] (x top : FVec Ideal s .f32)
    (ht : ∀ i, (top i : EReal) = ⊤) (init : u.Idx → BitVec 1) (h : s.ReducesTo axes t) (hu : 0 < u.numel) (j : t.Idx)
    (e : Host.reduce IntOp.andi (cmpf .olt (Host.absf x) top) init h hu j = 1#1) : Reals x := fun i => by
  have hi := Host.reduce_andi_all _ _ h hu j e i
  have hc : BitVec.ofBool (decide (max (x i : EReal) (-(x i : EReal)) < (top i : EReal))) = 1#1 := hi
  rw [ht] at hc
  refine real_of_abs ?_
  by_contra hn
  rw [decide_eq_false hn] at hc
  exact absurd hc (by decide)

/-- Two marks that are one together are one each. -/
theorem andi_one {a b : BitVec 1} (h : IntOp.andi a b = 1#1) : a = 1#1 ∧ b = 1#1 := by
  revert h
  revert a b
  decide

theorem args_real (x : Args) (h : Cert.Pre_finite_inputs.fn (F := Ideal) x.uc x.us x.vc x.vs x.lq x.id = fun _ => 1#1) : x.Real := by
  have hj := congrFun h (ix0)
  unfold Cert.Pre_finite_inputs.fn Cert.Pre_finite_inputs.fn_part1 at hj
  obtain ⟨hj, h4⟩ := andi_one hj
  obtain ⟨hj, h3⟩ := andi_one hj
  obtain ⟨hj, h2⟩ := andi_one hj
  obtain ⟨h0, h1⟩ := andi_one hj
  haveI : Subsingleton Cert.Pre_finite_inputs.S_.Idx := ⟨fun a b => funext fun y => y.elim0⟩
  exact ⟨reals_of_all _ _ (fun _ => bits_top) _ _ _ _ h0, reals_of_all _ _ (fun _ => bits_top) _ _ _ _ h1,
    reals_of_all _ _ (fun _ => bits_top) _ _ _ _ h2, reals_of_all _ _ (fun _ => bits_top) _ _ _ _ h3,
    reals_of_all _ _ (fun _ => bits_top) _ _ _ _ h4⟩

end Cert.Softmax

end
-- ==== Proof.Value.Equation.lean ====
/-
  The equation: from memories with the same real arguments, the kernel and the reference end with the same three results.
-/
module

public import proofs.«01_k».proof.Proof.Value.Arrays
public import proofs.«01_k».proof.Proof.Value.Reference
public import proofs.«01_k».proof.Proof.Value.Finite
public import proofs.«01_k».proof.Proof.Gen.ReferenceIdeal.Run
public import proofs.«01_k».proof.Defs

@[expose] public section

set_option maxRecDepth 16384

noncomputable section

namespace Cert.KernelIdeal.Point

open Idealize.ShloMosaic Idealize.ShloMosaic.TcCoe Idealize.SL.Sem Cert.KernelIdeal Cert.KernelIdeal.Gen Cert.Softmax

/-- The kernel's run: its three results are the losses and the gradients of the real data. -/
theorem run_value (m : (ℓ : Loc nD τ sig) → Buf (Elt Ideal) ℓ) (ρ : Dev nD → PrngReg) (hr : ∀ c, (args m c).Real) :
    θ_run defs (onTc (τ := τ) (main (F := Ideal))) ⟨m, fun _ => 0, ρ⟩ (fun r => ∀ c : Dev nD,
      r.2.mem ((c.tc : Thread nD τ).loc main_v9_0) = lossAll (args m c)
      ∧ r.2.mem ((c.tc : Thread nD τ).loc main_v9_1) = duAll (args m c)
      ∧ r.2.mem ((c.tc : Thread nD τ).loc main_v9_2) = dvAll (args m c)) :=
  (θ_run defs _ _).mono (fun _ h c => ⟨((h c).1 10).trans (final_loss m c (hr c)), ((h c).1 11).trans (final_du m c (hr c)),
    ((h c).1 12).trans (final_dv m c (hr c))⟩) (run_main m ρ)

/-- An index of rank three from its coordinates. -/
theorem ix_all {n a b : ℕ} (y : (⟨3, ![n, a, b]⟩ : Shape).Idx) : ∃ (g : Fin n) (i : Fin a) (j : Fin b), y = ix3 g i j :=
  ⟨y 0, y 1, y 2, funext fun x => by fin_cases x <;> rfl⟩

theorem ref_loss (x : Args) (h : x.Real) :
    Cert.ReferenceIdeal.Read.val_main_v52 (F := Ideal) x.uc x.us x.vc x.vs x.lq x.id = lossAll x := by
  funext y
  obtain ⟨g, z, i, rfl⟩ := ix_all (n := 8) (a := 1) (b := 4096) y
  obtain rfl : z = 0 := Subsingleton.elim _ _
  exact Cert.ReferenceIdeal.Read.loss_row h g i

theorem ref_du (x : Args) (h : x.Real) :
    Cert.ReferenceIdeal.Read.val_main_v53 (F := Ideal) x.uc x.us x.vc x.vs x.lq x.id = duAll x := by
  funext y
  obtain ⟨g, i, d, rfl⟩ := ix_all (n := 8) (a := 4096) (b := 64) y
  exact Cert.ReferenceIdeal.Read.user_grads h g i d

theorem ref_dv (x : Args) (h : x.Real) :
    Cert.ReferenceIdeal.Read.val_main_v54 (F := Ideal) x.uc x.us x.vc x.vs x.lq x.id = dvAll x := by
  funext y
  obtain ⟨g, j, d, rfl⟩ := ix_all (n := 8) (a := 4096) (b := 64) y
  exact Cert.ReferenceIdeal.Read.item_grads h g j d

end Cert.KernelIdeal.Point

namespace Cert.Proof

open Idealize.ShloMosaic Idealize.SL.Sem Cert.KernelIdeal.Point

/-- The kernel's losses and gradients are the reference's. -/
theorem algebraic : Cert.algebraic_KernelIdeal_ReferenceIdeal_pre_finite_inputs := by
  intro m g m' g' hpre hagree
  have hr : ∀ c, (args m c).Real := fun c => Cert.Softmax.args_real (args m c) (hpre c)
  refine ⟨fun c => lossAll (args m c), fun c => duAll (args m c), fun c => dvAll (args m c), ?_, ?_⟩
  · refine (θ_run Cert.KernelIdeal.defs _ _).mono (fun r h c => ?_) (θ_run_and (run_value m g hr) (unchanged m g))
    exact ⟨(h.1 c).1, (h.1 c).2.1, (h.1 c).2.2, h.2 c⟩
  · refine (θ_run Cert.ReferenceIdeal.defs _ _).mono (fun r h c => ?_) (Cert.ReferenceIdeal.Value.run (F := Ideal) m' g')
    obtain ⟨h0, h1, h2, hargs⟩ := h c
    obtain ⟨a0, a1, a2, a3, a4, a5⟩ := hagree c
    refine ⟨?_, ?_, ?_, hargs⟩
    · rw [h0, Cert.ReferenceIdeal.Read.val_main_v52_eq, a0, a1, a2, a3, a4, a5]; exact ref_loss (args m c) (hr c)
    · rw [h1, Cert.ReferenceIdeal.Read.val_main_v53_eq, a0, a1, a2, a3, a4, a5]; exact ref_du (args m c) (hr c)
    · rw [h2, Cert.ReferenceIdeal.Read.val_main_v54_eq, a0, a1, a2, a3, a4, a5]; exact ref_dv (args m c) (hr c)

end Cert.Proof

end
-- ==== Proof.lean ====
/-
  The certificate: the program runs and leaves its arguments alone, as printed and idealized; the idealization names
  constants only; and over the extended reals the kernel's losses and gradients are the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Printed
public import proofs.«01_k».proof.Proof.Value.Equation
public import Idealize.ShloMosaic.Adequacy
public import Idealize.ShloMosaic.Init

@[expose] public section

noncomputable section

namespace Cert.Proof

open Idealize.ShloMosaic Idealize.SL.Sem

/-- The printed program's frame. -/
theorem frame_p : Cert.quiescent_Kernel := fun m g _ => Cert.Kernel.Point.frame m g

/-- The idealized program's frame. -/
theorem frame_pi : Cert.quiescent_KernelIdeal := fun m g _ => Cert.KernelIdeal.Point.frame m g

/-- The reference's frame: it declares no semaphore. -/
theorem frame_ri : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The idealization names three constants. -/
theorem preserves : Cert.preserves_Kernel_KernelIdeal :=
  ⟨IdealRules.named_const.statement Cert.KernelIdeal.κ "tau_log2e" .f32 0x41E6D4CA#32 _ rfl,
    IdealRules.named_const.statement Cert.KernelIdeal.κ "log2e" .f32 0x3FB8AA3B#32 _ rfl,
    IdealRules.named_const.statement Cert.KernelIdeal.κ "ln2" .f32 0x3F317218#32 _ rfl⟩

theorem claim : Cert.Claim := ⟨Cert.Kernel.Gen.facts, Cert.KernelIdeal.Gen.facts, Cert.ReferenceIdeal.Gen.facts, Cert.Pre_finite_inputs.Gen.facts,
  frame_p, frame_pi, fun m g _ => frame_pi m g trivial, frame_ri, fun m g _ => frame_ri m g trivial, preserves, algebraic⟩

end Cert.Proof

end
